-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![32768, 1]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![32768, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S2x1024x512 : Shape := ⟨3, ![2, 1024, 512]⟩
abbrev S2x2x1024 : Shape := ⟨3, ![2, 2, 1024]⟩
abbrev S2x1024x1024 : Shape := ⟨3, ![2, 1024, 1024]⟩
abbrev S2 : Shape := ⟨1, ![2]⟩
abbrev S_ : Shape := ⟨0, ![]⟩
abbrev S1024x128 : Shape := ⟨2, ![1024, 128]⟩
abbrev S1024 : Shape := ⟨1, ![1024]⟩
abbrev S1x1024x512 : Shape := ⟨3, ![1, 1024, 512]⟩
abbrev S1x1x1024 : Shape := ⟨3, ![1, 1, 1024]⟩
abbrev S1x1024x1024 : Shape := ⟨3, ![1, 1024, 1024]⟩
abbrev S1x512x1024 : Shape := ⟨3, ![1, 512, 1024]⟩
abbrev S1 : Shape := ⟨1, ![1]⟩
abbrev S1x2x1024 : Shape := ⟨3, ![1, 2, 1024]⟩
abbrev S2x1024 : Shape := ⟨2, ![2, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x1, .i32⟩
  | .hbm, ⟨3, _⟩ => ⟨S4x512x1024, .f32⟩
  | .hbm, ⟨4, _⟩ => ⟨S512x1024, .f32⟩
  | .hbm, ⟨5, _⟩ => ⟨S1024x1024, .f32⟩
  | .local _ .vmem, ⟨0, _⟩ => ⟨S1024x512, .f32⟩
  | .local _ .vmem, ⟨1, _⟩ => ⟨S512x128, .f32⟩
  | .local _ .vmem, ⟨2, _⟩ => ⟨S1024x1, .i32⟩
  | .local _ .vmem, ⟨3, _⟩ => ⟨S4x512x1024, .f32⟩
  | .local _ .vmem, ⟨4, _⟩ => ⟨S512x1024, .f32⟩
  | .local _ .vmem, ⟨5, _⟩ => ⟨S1024x1024, .f32⟩
  | .local _ .vmem, ⟨6, _⟩ => ⟨S2x1024x512, .f32⟩
  | .local _ .vmem, ⟨7, _⟩ => ⟨S2x2x1024, .f32⟩
  | .local _ .vmem, ⟨8, _⟩ => ⟨S2x1024x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 2 20 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_76 : BitVec 32 := 1#32
  let v119 : BitVec 32 := Scalar.muli v7 c1_i32_76
  let v120 : BitVec 32 := Scalar.addi c0_i32_77 v119
  v120.toNat
def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_86 : BitVec 32 := 1#32
  let v129 : BitVec 32 := Scalar.muli v7 c1_i32_86
  let v130 : BitVec 32 := Scalar.addi c0_i32_87 v129
  v130.toNat
def k0_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_96 : BitVec 32 := 1#32
  let v139 : BitVec 32 := Scalar.muli v7 c1_i32_96
  let v140 : BitVec 32 := Scalar.addi c0_i32_97 v139
  v140.toNat
def k0_dev6 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_160 : BitVec 32 := 1#32
  let v191 : BitVec 32 := Scalar.muli v5 c1_i32_160
  let v192 : BitVec 32 := Scalar.addi c0_i32_161 v191
  v192.toNat
@[reducible] def k0_t1_loop : Scf.Loop 32 :=
  let c1_i32_162 : BitVec 32 := 1#32
  let c30_i32 : BitVec 32 := 30#32
  let v193 : BitVec 32 := Scalar.addi c1_i32_162 c30_i32
  let c1_i32_163 : BitVec 32 := 1#32
  ⟨c1_i32_162, v193, c1_i32_163⟩
def k0_off1 (k0_t1 : Fin k0_t1_loop.trips) : Fin 3 → Nat :=
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let v273 : Index := Scalar.indexCast v271
  let c0_226 : Index := 0#32
  let c0_227 : Index := 0#32
  ![v273.toNat, 0, 0]
def k0_off2 (k0_t1 : Fin k0_t1_loop.trips) : Fin 3 → Nat :=
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let v276 : Index := Scalar.indexCast v271
  let c0_228 : Index := 0#32
  let c0_229 : Index := 0#32
  ![v276.toNat, 0, 0]
def k0_off3 (k0_t1 : Fin k0_t1_loop.trips) : Fin 3 → Nat :=
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let v279 : Index := Scalar.indexCast v271
  let c1_230 : Index := 1#32
  let c0_231 : Index := 0#32
  ![v279.toNat, 1, 0]
def k0_off4 (k0_t1 : Fin k0_t1_loop.trips) : Fin 3 → Nat :=
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let v282 : Index := Scalar.indexCast v271
  let c0_232 : Index := 0#32
  let c0_233 : Index := 0#32
  ![v282.toNat, 0, 0]
def k0_off5 (k0_t1 : Fin k0_t1_loop.trips) : Fin 1 → Nat :=
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  ![v271.toNat]
def k0_off6 (k0_t1 : Fin k0_t1_loop.trips) : Fin 1 → Nat :=
  let c1_i32_225 : BitVec 32 := 1#32
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let v272 : BitVec 32 := Scalar.subi c1_i32_225 v271
  ![v272.toNat]
def k0_off7 (k0_t1 : Fin k0_t1_loop.trips) : Fin 3 → Nat :=
  let c1_i32_225 : BitVec 32 := 1#32
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let v272 : BitVec 32 := Scalar.subi c1_i32_225 v271
  let c0_i32_268 : BitVec 32 := 0#32
  let c0_i32_269 : BitVec 32 := 0#32
  ![v272.toNat, 0, 0]
def k0_off8 (k0_t1 : Fin k0_t1_loop.trips) : Fin 3 → Nat :=
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let c0_i32_270 : BitVec 32 := 0#32
  let c0_i32_271 : BitVec 32 := 0#32
  ![v271.toNat, 0, 0]
def k0_dev7 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_266 : BitVec 32 := 1#32
  let v345 : BitVec 32 := Scalar.muli v7 c1_i32_266
  let v346 : BitVec 32 := Scalar.addi c0_i32_267 v345
  v346.toNat
def k0_off9 (k0_t1 : Fin k0_t1_loop.trips) : Fin 3 → Nat :=
  let c1_i32_225 : BitVec 32 := 1#32
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let v272 : BitVec 32 := Scalar.subi c1_i32_225 v271
  let c0_i32_274 : BitVec 32 := 0#32
  let c0_i32_275 : BitVec 32 := 0#32
  ![v272.toNat, 0, 0]
def k0_off10 (k0_t1 : Fin k0_t1_loop.trips) : Fin 3 → Nat :=
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let c0_i32_276 : BitVec 32 := 0#32
  let c0_i32_277 : BitVec 32 := 0#32
  ![v271.toNat, 0, 0]
def k0_dev8 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_272 : BitVec 32 := 1#32
  let v355 : BitVec 32 := Scalar.muli v7 c1_i32_272
  let v356 : BitVec 32 := Scalar.addi c0_i32_273 v355
  v356.toNat
def k0_off11 (k0_t1 : Fin k0_t1_loop.trips) : Fin 3 → Nat :=
  let c1_i32_225 : BitVec 32 := 1#32
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let v272 : BitVec 32 := Scalar.subi c1_i32_225 v271
  let c0_i32_280 : BitVec 32 := 0#32
  let c0_i32_281 : BitVec 32 := 0#32
  ![v272.toNat, 0, 0]
def k0_off12 (k0_t1 : Fin k0_t1_loop.trips) : Fin 3 → Nat :=
  let c1_i32_162 : BitVec 32 := 1#32
  let c1_i32_163 : BitVec 32 := 1#32
  let arg18 : BitVec 32 := Scf.iv c1_i32_162 c1_i32_163 k0_t1
  let c2_i32_224 : BitVec 32 := 2#32
  let v271 : BitVec 32 := Scalar.remsi arg18 c2_i32_224
  let c0_i32_282 : BitVec 32 := 0#32
  let c0_i32_283 : BitVec 32 := 0#32
  ![v271.toNat, 0, 0]
def k0_dev9 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_278 : BitVec 32 := 1#32
  let v365 : BitVec 32 := Scalar.muli v7 c1_i32_278
  let v366 : BitVec 32 := Scalar.addi c0_i32_279 v365
  v366.toNat
def k0_dev10 (d0 : Dev nD) : Nat :=
  let c0_i32_319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let v4 : BitVec 32 := Scalar.addi v3 c32_i32_1
  let c32_i32_2 : BitVec 32 := 32#32
  let v5 : BitVec 32 := Scalar.remsi v4 c32_i32_2
  let c1_i32_318 : BitVec 32 := 1#32
  let v417 : BitVec 32 := Scalar.muli v5 c1_i32_318
  let v418 : BitVec 32 := Scalar.addi c0_i32_319 v417
  v418.toNat
def k0_dev11 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_211 : BitVec 32 := 1#32
  let v261 : BitVec 32 := Scalar.muli v7 c1_i32_211
  let v262 : BitVec 32 := Scalar.addi c0_i32_212 v261
  v262.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32768x512 : Shape := ⟨2, ![32768, 512]⟩
abbrev S512x128 : Shape := ⟨2, ![512, 128]⟩
abbrev S32768x1 : Shape := ⟨2, ![32768, 1]⟩
abbrev S128x512x1024 : Shape := ⟨3, ![128, 512, 1024]⟩
abbrev S512x1024 : Shape := ⟨2, ![512, 1024]⟩
abbrev S32768x128 : Shape := ⟨2, ![32768, 128]⟩
abbrev S_ : Shape := ⟨0, ![]⟩
abbrev S32768 : Shape := ⟨1, ![32768]⟩
abbrev S32768x1024 : Shape := ⟨2, ![32768, 1024]⟩
abbrev S32768x1x1 : Shape := ⟨3, ![32768, 1, 1]⟩
abbrev S32768x512x1024 : Shape := ⟨3, ![32768, 512, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x128, .f32⟩
  | .hbm, ⟨2, _⟩ => ⟨S32768x1, .i32⟩
  | .hbm, ⟨3, _⟩ => ⟨S128x512x1024, .f32⟩
  | .hbm, ⟨4, _⟩ => ⟨S512x1024, .f32⟩
  | .hbm, ⟨5, _⟩ => ⟨S32768x128, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S32768x128, .f32⟩
  | .hbm, ⟨10, _⟩ => ⟨S32768x128, .f32⟩
  | .hbm, ⟨11, _⟩ => ⟨S32768x128, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x128, .f32⟩
  | .hbm, ⟨16, _⟩ => ⟨S32768x128, .f32⟩
  | .hbm, ⟨17, _⟩ => ⟨S32768x1024, .f32⟩
  | .hbm, ⟨18, _⟩ => ⟨S32768, .i32⟩
  | .hbm, ⟨19, _⟩ => ⟨S_, .i32⟩
  | .hbm, ⟨20, _⟩ => ⟨S32768x1, .i32⟩
  | .hbm, ⟨21, _⟩ => ⟨S32768x1, .i1⟩
  | .hbm, ⟨22, _⟩ => ⟨S_, .i32⟩
  | .hbm, ⟨23, _⟩ => ⟨S32768x1, .i32⟩
  | .hbm, ⟨24, _⟩ => ⟨S32768x1, .i1⟩
  | .hbm, ⟨25, _⟩ => ⟨S32768x1, .i1⟩
  | .hbm, ⟨26, _⟩ => ⟨S_, .i32⟩
  | .hbm, ⟨27, _⟩ => ⟨S32768x1, .i32⟩
  | .hbm, ⟨28, _⟩ => ⟨S32768x1, .i1⟩
  | .hbm, ⟨29, _⟩ => ⟨S_, .i32⟩
  | .hbm, ⟨30, _⟩ => ⟨S32768x1, .i32⟩
  | .hbm, ⟨31, _⟩ => ⟨S32768x1, .i32⟩
  | .hbm, ⟨32, _⟩ => ⟨S32768x1, .i32⟩
  | .hbm, ⟨33, _⟩ => ⟨S32768x1x1, .i32⟩
  | .hbm, ⟨34, _⟩ => ⟨S32768x1, .f32⟩
  | .hbm, ⟨35, _⟩ => ⟨S_, .i32⟩
  | .hbm, ⟨36, _⟩ => ⟨S32768, .i32⟩
  | .hbm, ⟨37, _⟩ => ⟨S32768, .i1⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S32768, .i32⟩
  | .hbm, ⟨42, _⟩ => ⟨S32768x1, .i32⟩
  | .hbm, ⟨43, _⟩ => ⟨S32768x512x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S_, .f32⟩
  | .hbm, ⟨49, _⟩ => ⟨S32768x1024, .i1⟩
  | .hbm, ⟨50, _⟩ => ⟨S32768x1024, .f32⟩
  | .hbm, ⟨51, _⟩ => ⟨S32768x1024, .f32⟩
  | .hbm, ⟨52, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Proof.Cells.lean ====
/-
  The ring's protocol, written down before anything is proved about the kernel.

  Thirty-two devices stand in a ring: device `c` sends to `nxt c` and receives from `prv c`. A packet — a block of
  tokens, the expert number and the weight of each token, and the partial result — travels once round the ring. Hop `h`
  (`0 ≤ h ≤ 30`) is device `c` adding its four experts' share to the packet in its slot `h % 2` and copying the three
  buffers of that slot into slot `(h+1) % 2` of `nxt c`; after the thirty-first hop the device adds its share to the
  packet in slot 1 and copies the partial result into the result's staging buffer of `nxt c`, whose tokens these were.

  The semaphore cells of a device, each with who pays it, who waits, and what a landing hands over:
  * the barrier cell: one unit from each neighbour, waited for once (two units). `nxt c`'s unit hands `c` the slot 1 of
    `nxt c`'s three buffers and `nxt c`'s result staging buffer, at any contents;
  * the credit cell: hop `h` of `nxt c` ends with one unit to `c`, waited for by `c` in its hop `h + 1`. It hands `c`
    the slot `h % 2` of `nxt c`'s buffers (the slot `nxt c` has just finished sending), with the fact that the receive
    cells of that slot are at the round the next copies pay; the unit of hop 30 hands over nothing;
  * the send cell of buffer `b` and slot `s`: paid by the read-out of `c`'s own copy of hop `2 r + s` in round `r`, which
    hands the sent slot back;
  * the receive cell of buffer `b` and slot `t`: paid by the landing of `prv c`'s copy of hop `2 r + 1 - t` in round `r`,
    which hands over slot `t` of that buffer holding the packet; the partial result's landing (`b = 2`) hands over also
    the fact that `prv c` has reached the round of its credit cell that `c`'s next credit pays;
  * the last send cell and the last receive cell: the copy of the partial result into the result's staging buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's copy of the rounds library: cells of the machine, duties named by a Boolean. -/
abbrev UB : Type := URounds (GSem nD τ sig) Bool
/-- The proof's component: the pipeline's copy beside the protocol's. -/
abbrev UU : Type := UR sig nD τ × UB

/-- The indices credits and debts are counted at are the hops. -/
local notation "𝕄" => MT nD τ sig ℕ (Elt F) ℕ UU ℕ

/-- The pipeline's copy inside the whole algebra, -/
def EP : Emb (UR sig nD τ) (MT nD τ sig ℕ (Elt F) ℕ UU ℕ) :=
  (Emb.inl : Emb (UR sig nD τ) UU).trans (uEmb (nD := nD) (sig := sig) (Ix := ℕ) (Val := Elt F) (Name := ℕ) (U := UU) (Lvl := ℕ)).toEmb
/-- and the protocol's. -/
def ER : Emb UB (MT nD τ sig ℕ (Elt F) ℕ UU ℕ) :=
  (Emb.inr : Emb UB UU).trans (uEmb (nD := nD) (sig := sig) (Ix := ℕ) (Val := Elt F) (Name := ℕ) (U := UU) (Lvl := ℕ)).toEmb

instance EP_landsIn : (EP : Emb (UR sig nD τ) 𝕄).LandsIn (upEmb : UEmb _ 𝕄) := by unfold EP; infer_instance
instance ER_landsIn : (ER : Emb UB 𝕄).LandsIn (upEmb : UEmb _ 𝕄) := by unfold ER; infer_instance

/-- No loop of the program is counted by a variant. -/
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device `c` sends to, -/
def nxt (c : Dev nD) : Dev nD := ⟨(c.val + 1) % 32, Nat.mod_lt _ (by decide)⟩
set_option backward.proofsInPublic true in
/-- and the device it receives from. -/
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = prv c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)
theorem dev9_eq (c : Dev nD) : (⟨k0_dev9 c, k0_dev9_lt c⟩ : Dev nD) = nxt c := Fin.ext (k0_dev9_eq c)
theorem dev10_eq (c : Dev nD) : (⟨k0_dev10 c, k0_dev10_lt c⟩ : Dev nD) = prv c := Fin.ext (k0_dev10_eq c)
theorem dev11_eq (c : Dev nD) : (⟨k0_dev11 c, k0_dev11_lt c⟩ : Dev nD) = nxt c := Fin.ext (k0_dev11_eq c)

/-! ## The cells -/

/-- The kinds of cells a device has. -/
inductive CK where
  | bar | cred
  | snd (b : Fin 3) (s : Fin 2)
  | rcv (b : Fin 3) (s : Fin 2)
  | so | ro
deriving DecidableEq

set_option backward.proofsInPublic true in
/-- All sixteen of them. -/
def CK.all : List CK :=
  [.bar, .cred, .snd 0 0, .snd 0 1, .rcv 0 0, .rcv 0 1, .snd 1 0, .snd 1 1, .rcv 1 0, .rcv 1 1, .snd 2 0, .snd 2 1, .rcv 2 0, .rcv 2 1, .so, .ro]

theorem CK.mem_all (k : CK) : k ∈ CK.all := by
  cases k with
  | snd b s => revert b s; decide
  | rcv b s => revert b s; decide
  | _ => decide

instance : Fintype CK := ⟨CK.all.toFinset, fun k => List.mem_toFinset.2 (CK.mem_all k)⟩

set_option backward.proofsInPublic true in
/-- The semaphore of each kind. -/
def csem : CK → SemLoc sig
  | .bar => .reg (1 : Fin 2)
  | .cred => .reg (0 : Fin 2)
  | .snd b s => .dma (⟨6 + 4 * b.val + s.val, by have := b.isLt; have := s.isLt; omega⟩ : Fin 20)
  | .rcv b s => .dma (⟨8 + 4 * b.val + s.val, by have := b.isLt; have := s.isLt; omega⟩ : Fin 20)
  | .so => .dma (18 : Fin 20)
  | .ro => .dma (19 : Fin 20)

set_option backward.proofsInPublic true in
/-- The kind of a semaphore, if it is one of the protocol's. -/
def kindOf : SemLoc sig → Option CK
  | .reg i => if i.val = 0 then some .cred else some .bar
  | .dma i =>
    if i.val < 6 then none else if i.val = 18 then some .so else if i.val = 19 then some .ro
    else if (i.val - 6) % 4 < 2 then some (.snd ⟨(i.val - 6) / 4 % 3, Nat.mod_lt _ (by decide)⟩ ⟨(i.val - 6) % 2, Nat.mod_lt _ (by decide)⟩)
    else some (.rcv ⟨(i.val - 6) / 4 % 3, Nat.mod_lt _ (by decide)⟩ ⟨(i.val - 6) % 2, Nat.mod_lt _ (by decide)⟩)

@[simp] theorem kindOf_csem (k : CK) : kindOf (csem k) = some k := by revert k; decide

theorem csem_injective : Function.Injective csem := fun a b h => by
  simpa using congrArg kindOf h

/-- Device `c`'s cell of kind `k`. -/
abbrev cell (c : Dev nD) (k : CK) : GSem nD τ sig := ((c : Thread nD τ), csem k)

/-- The kind of a cell: a TensorCore's cell of one of the protocol's semaphores. -/
def kindG (g : GSem nD τ sig) : Option CK := if g.1.2 = .tc then kindOf g.2 else none

@[simp] theorem kindG_cell (c : Dev nD) (k : CK) : kindG (cell c k) = some k := by
  unfold kindG; rw [if_pos rfl]; exact kindOf_csem k

/-- The slot of a hop. -/
def sl (h : ℕ) : Fin 2 := ⟨h % 2, Nat.mod_lt _ (by decide)⟩

theorem sl_add_two (h : ℕ) : sl (h + 2) = sl h := by unfold sl; ext; simp

/-! ## The kernel's memrefs -/

/-- The three travelling buffers, whole, -/
abbrev xM : Memref sig .tc .vmem S2x1024x512 .f32 := Memref.whole cc0_scratch0
abbrev mM : Memref sig .tc .vmem S2x2x1024 .f32 := Memref.whole cc0_scratch1
abbrev aM : Memref sig .tc .vmem S2x1024x1024 .f32 := Memref.whole cc0_scratch2
/-- and the result's staging buffer. -/
abbrev oM : Memref sig .tc .vmem S1024x1024 .f32 := Memref.whole cc0_stg5_0

theorem inbX (s : Fin 2) : ∀ a, (![s.val, 0, 0] : Fin 3 → ℕ) a + S1x1024x512.size a ≤ S2x1024x512.size a := by revert s; decide
theorem inbM (s : Fin 2) : ∀ a, (![s.val, 0, 0] : Fin 3 → ℕ) a + S1x2x1024.size a ≤ S2x2x1024.size a := by revert s; decide
theorem inbA (s : Fin 2) : ∀ a, (![s.val, 0, 0] : Fin 3 → ℕ) a + S1x1024x1024.size a ≤ S2x1024x1024.size a := by revert s; decide
theorem inbR (s j : Fin 2) : ∀ a, (![s.val, j.val, 0] : Fin 3 → ℕ) a + S1x1x1024.size a ≤ S2x2x1024.size a := by revert s j; decide

/-- The rectangles of a slot, and the two rows of a slot of the second buffer. -/
abbrev rX (s : Fin 2) : Rect S2x1024x512 := Rect.unit (s := S2x1024x512) ![s.val, 0, 0] S1x1024x512.size (inbX s)
abbrev rM (s : Fin 2) : Rect S2x2x1024 := Rect.unit (s := S2x2x1024) ![s.val, 0, 0] S1x2x1024.size (inbM s)
abbrev rA (s : Fin 2) : Rect S2x1024x1024 := Rect.unit (s := S2x1024x1024) ![s.val, 0, 0] S1x1024x1024.size (inbA s)
abbrev rR (s j : Fin 2) : Rect S2x2x1024 := Rect.unit (s := S2x2x1024) ![s.val, j.val, 0] S1x1x1024.size (inbR s j)

/-- The slots as the copies name them. -/
abbrev xQ (s : Fin 2) : Memref sig .tc .vmem S1024x512 .f32 := (xM.slice (rX s) (fun _ => rfl)).squeeze S1024x512 squeezes_S1x1024x512_S1024x512
abbrev mQ (s : Fin 2) : Memref sig .tc .vmem S2x1024 .f32 := (mM.slice (rM s) (fun _ => rfl)).squeeze S2x1024 squeezes_S1x2x1024_S2x1024
abbrev aQ (s : Fin 2) : Memref sig .tc .vmem S1024x1024 .f32 := (aM.slice (rA s) (fun _ => rfl)).squeeze S1024x1024 squeezes_S1x1024x1024_S1024x1024

/-- What a copy of one slot credits, buffer by buffer, and what the last copy does. -/
def NN (b : Fin 3) : ℕ := match b with | 0 => (xQ 0).view.dmaCredit | 1 => (mQ 0).view.dmaCredit | 2 => (aQ 0).view.dmaCredit
def NO : ℕ := oM.view.dmaCredit

theorem NN_pos (b : Fin 3) : 0 < NN b := by
  unfold NN
  split <;> exact View.dmaCredit_pos _ (by decide)
theorem NO_pos : 0 < NO := View.dmaCredit_pos _ (by decide)

theorem NX_eq (s : Fin 2) : (xQ s).view.dmaCredit = NN 0 := rfl
theorem NM_eq (s : Fin 2) : (mQ s).view.dmaCredit = NN 1 := rfl
theorem NA_eq (s : Fin 2) : (aQ s).view.dmaCredit = NN 2 := rfl

/-! ## Packets -/

/-- What a slot of the three buffers holds: tokens, expert numbers, weights, partial result, each as a load reads it. -/
structure Pkt (F : FTy → Type) where
  x : Vec F S1x1024x512 .f32
  i : Vec F S1x1x1024 .f32
  p : Vec F S1x1x1024 .f32
  a : Vec F S1x1024x1024 .f32

/-- The device's number as the kernel computes it. -/
def meW (c : Dev nD) : BitVec 32 := Scalar.remsi (Scalar.divsi (Dev.word c) 1#32) 32#32

/-- Device `w` adds the share of its four experts `e` to a packet. -/
def accW (w : BitVec 32) (e : Fin 4 → Vec F S1x512x1024 .f32) (T : Pkt F) : Vec F S1x1024x1024 .f32 :=
  k0_pay7 w (k0_pay1 T.x) (k0_pay2 T.i) (k0_pay3 T.p) (k0_pay4 w T.x T.i T.p T.a (e 0)) (k0_pay5 T.x (e 1)) (k0_pay6 w T.i) (e 2) (e 3)

def Pkt.add (w : BitVec 32) (e : Fin 4 → Vec F S1x512x1024 .f32) (T : Pkt F) : Pkt F := { T with a := accW w e T }

/-- The packet a device fills for its own tokens. -/
def pkt0 (x : Vec F S1024x512 .f32) (rw : Vec F S512x128 .f32) (ix : Vec F S1024x1 .i32) (sw : Vec F S512x1024 .f32) : Pkt F where
  x := k0_pay12 (k0_pay8 x)
  i := k0_pay13 (k0_pay10 ix)
  p := k0_pay14 (k0_pay9 x rw) (iota .tc S1024x128 32 [1] iota_S1024x128_d1_w32) (k0_pay11 ix)
  a := k0_pay15 (k0_pay8 x) sw

end Cert.Proof.Ring

end
-- ==== Proof.Slots.lean ====
/-
  A slot of a travelling buffer as a resource: the elements of the slot, held in full, at contents a load of the slot
  reads as the packet's part. A whole buffer is its two slots.
-/
module

public import proofs.«01_k».proof.Proof.Cells
public import Idealize.ShloMosaic.Lib.ViewIndex

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The slots' views. -/
abbrev vX (s : Fin 2) := (xM.slice (rX s) (fun _ => rfl)).view
abbrev vM (s : Fin 2) := (mM.slice (rM s) (fun _ => rfl)).view
abbrev vA (s : Fin 2) := (aM.slice (rA s) (fun _ => rfl)).view
/-- A row of a slot of the second buffer. -/
abbrev vR (s j : Fin 2) := (mM.access (rR s j))

abbrev xLoc (c : Dev nD) : Loc nD τ sig := xM.view.loc (c : Thread nD τ)
abbrev mLoc (c : Dev nD) : Loc nD τ sig := mM.view.loc (c : Thread nD τ)
abbrev aLoc (c : Dev nD) : Loc nD τ sig := aM.view.loc (c : Thread nD τ)
abbrev oLoc (c : Dev nD) : Loc nD τ sig := oM.view.loc (c : Thread nD τ)

/-- Slot `s` of device `c`'s first buffer, holding the packet's tokens; -/
def slotX (c : Dev nD) (s : Fin 2) (T : Pkt F) : sProp 𝕄 :=
  iprop(∃ f : Buf (Elt F) (xLoc c), ⌜(vX s).read (Elt F) f = T.x⌝ ∗ (xLoc c ↦[(vX s).set]{fullShare} f))
/-- of its second, holding the expert numbers and the weights; -/
def slotM (c : Dev nD) (s : Fin 2) (T : Pkt F) : sProp 𝕄 :=
  iprop(∃ f : Buf (Elt F) (mLoc c), ⌜(vR s 0).read (Elt F) f = T.i ∧ (vR s 1).read (Elt F) f = T.p⌝ ∗ (mLoc c ↦[(vM s).set]{fullShare} f))
/-- of its third, holding the partial result. -/
def slotA (c : Dev nD) (s : Fin 2) (T : Pkt F) : sProp 𝕄 :=
  iprop(∃ f : Buf (Elt F) (aLoc c), ⌜(vA s).read (Elt F) f = T.a⌝ ∗ (aLoc c ↦[(vA s).set]{fullShare} f))

/-- Slot `s` of device `c`'s buffer `b`. -/
def slotP (b : Fin 3) (c : Dev nD) (s : Fin 2) (T : Pkt F) : sProp 𝕄 :=
  match b with | 0 => slotX c s T | 1 => slotM c s T | 2 => slotA c s T

/-- A slot at any contents. -/
def anyX (c : Dev nD) (s : Fin 2) : sProp 𝕄 := iprop(∃ f : Buf (Elt F) (xLoc c), xLoc c ↦[(vX s).set]{fullShare} f)
def anyM (c : Dev nD) (s : Fin 2) : sProp 𝕄 := iprop(∃ f : Buf (Elt F) (mLoc c), mLoc c ↦[(vM s).set]{fullShare} f)
def anyA (c : Dev nD) (s : Fin 2) : sProp 𝕄 := iprop(∃ f : Buf (Elt F) (aLoc c), aLoc c ↦[(vA s).set]{fullShare} f)

/-- The slot of all three buffers at any contents. -/
def slots (c : Dev nD) (s : Fin 2) : sProp 𝕄 := iprop(anyX c s ∗ anyM c s ∗ anyA c s)

/-- The result's staging buffer, whole. -/
def outP (c : Dev nD) (f : Buf (Elt F) (oLoc c)) : sProp 𝕄 := oLoc c ↦[oM.view.set]{fullShare} f

instance slotX_storable (c : Dev nD) (s : Fin 2) (T : Pkt F) : BI.Storable (upEmb : UEmb _ 𝕄) (slotX c s T) := by unfold slotX; infer_instance
instance slotM_storable (c : Dev nD) (s : Fin 2) (T : Pkt F) : BI.Storable (upEmb : UEmb _ 𝕄) (slotM c s T) := by unfold slotM; infer_instance
instance slotA_storable (c : Dev nD) (s : Fin 2) (T : Pkt F) : BI.Storable (upEmb : UEmb _ 𝕄) (slotA c s T) := by unfold slotA; infer_instance
instance slotP_storable (b : Fin 3) (c : Dev nD) (s : Fin 2) (T : Pkt F) : BI.Storable (upEmb : UEmb _ 𝕄) (slotP b c s T) := by
  unfold slotP; split <;> infer_instance
instance anyX_storable (c : Dev nD) (s : Fin 2) : BI.Storable (upEmb : UEmb _ 𝕄) (anyX (F := F) c s) := by unfold anyX; infer_instance
instance anyM_storable (c : Dev nD) (s : Fin 2) : BI.Storable (upEmb : UEmb _ 𝕄) (anyM (F := F) c s) := by unfold anyM; infer_instance
instance anyA_storable (c : Dev nD) (s : Fin 2) : BI.Storable (upEmb : UEmb _ 𝕄) (anyA (F := F) c s) := by unfold anyA; infer_instance
instance slots_storable (c : Dev nD) (s : Fin 2) : BI.Storable (upEmb : UEmb _ 𝕄) (slots (F := F) c s) := by unfold slots; infer_instance
instance outP_storable (c : Dev nD) (f) : BI.Storable (upEmb : UEmb _ 𝕄) (outP (F := F) c f) := by unfold outP; infer_instance

theorem slotX_any (c : Dev nD) (s : Fin 2) (T : Pkt F) : (slotX c s T : sProp 𝕄) ⊢ anyX c s := by
  unfold slotX anyX; iintro ⟨%f, -, H⟩; iexists f; iexact H
theorem slotM_any (c : Dev nD) (s : Fin 2) (T : Pkt F) : (slotM c s T : sProp 𝕄) ⊢ anyM c s := by
  unfold slotM anyM; iintro ⟨%f, -, H⟩; iexists f; iexact H
theorem slotA_any (c : Dev nD) (s : Fin 2) (T : Pkt F) : (slotA c s T : sProp 𝕄) ⊢ anyA c s := by
  unfold slotA anyA; iintro ⟨%f, -, H⟩; iexists f; iexact H

/-! ## Two slots are a buffer -/

theorem setX (s : Fin 2) : (vX s).set = (rX s).set := View.set_slice_whole _ _
theorem setM (s : Fin 2) : (vM s).set = (rM s).set := View.set_slice_whole _ _
theorem setA (s : Fin 2) : (vA s).set = (rA s).set := View.set_slice_whole _ _

theorem disjX : Disjoint (vX 0).set (vX 1).set := by
  rw [setX, setX]; exact Rect.disjoint_of_separated _ _ 0 (by decide)
theorem disjM : Disjoint (vM 0).set (vM 1).set := by
  rw [setM, setM]; exact Rect.disjoint_of_separated _ _ 0 (by decide)
theorem disjA : Disjoint (vA 0).set (vA 1).set := by
  rw [setA, setA]; exact Rect.disjoint_of_separated _ _ 0 (by decide)

theorem mem_rX (s : Fin 2) (i : S2x1024x512.Idx) : i ∈ (rX s).set ↔ (i 0).val = s.val := by
  rw [LoadRect.mem_set]
  constructor
  · intro h; obtain ⟨j, hj, e⟩ := h 0
    have hj' : j < 1 := hj
    have e' : (i 0).val = s.val + 1 * j := e
    omega
  · intro h a
    match a with
    | ⟨0, _⟩ => exact ⟨0, Nat.one_pos, h⟩
    | ⟨1, _⟩ => exact ⟨(i 1).val, (i 1).isLt, (by omega : (i 1).val = 0 + 1 * (i 1).val)⟩
    | ⟨2, _⟩ => exact ⟨(i 2).val, (i 2).isLt, (by omega : (i 2).val = 0 + 1 * (i 2).val)⟩
theorem mem_rM (s : Fin 2) (i : S2x2x1024.Idx) : i ∈ (rM s).set ↔ (i 0).val = s.val := by
  rw [LoadRect.mem_set]
  constructor
  · intro h; obtain ⟨j, hj, e⟩ := h 0
    have hj' : j < 1 := hj
    have e' : (i 0).val = s.val + 1 * j := e
    omega
  · intro h a
    match a with
    | ⟨0, _⟩ => exact ⟨0, Nat.one_pos, h⟩
    | ⟨1, _⟩ => exact ⟨(i 1).val, (i 1).isLt, (by omega : (i 1).val = 0 + 1 * (i 1).val)⟩
    | ⟨2, _⟩ => exact ⟨(i 2).val, (i 2).isLt, (by omega : (i 2).val = 0 + 1 * (i 2).val)⟩
theorem mem_rA (s : Fin 2) (i : S2x1024x1024.Idx) : i ∈ (rA s).set ↔ (i 0).val = s.val := by
  rw [LoadRect.mem_set]
  constructor
  · intro h; obtain ⟨j, hj, e⟩ := h 0
    have hj' : j < 1 := hj
    have e' : (i 0).val = s.val + 1 * j := e
    omega
  · intro h a
    match a with
    | ⟨0, _⟩ => exact ⟨0, Nat.one_pos, h⟩
    | ⟨1, _⟩ => exact ⟨(i 1).val, (i 1).isLt, (by omega : (i 1).val = 0 + 1 * (i 1).val)⟩
    | ⟨2, _⟩ => exact ⟨(i 2).val, (i 2).isLt, (by omega : (i 2).val = 0 + 1 * (i 2).val)⟩

theorem coverX : (vX 0).set ∪ (vX 1).set = Finset.univ := by
  rw [setX, setX]; ext i
  have h : (i 0).val < 2 := (i 0).isLt
  simp only [Finset.mem_union, Finset.mem_univ, iff_true]
  rcases Nat.lt_or_ge (i 0).val 1 with h' | h'
  · left; exact (mem_rX 0 i).2 (by show _ = 0; omega)
  · right; exact (mem_rX 1 i).2 (by show _ = 1; omega)
theorem coverM : (vM 0).set ∪ (vM 1).set = Finset.univ := by
  rw [setM, setM]; ext i
  have h : (i 0).val < 2 := (i 0).isLt
  simp only [Finset.mem_union, Finset.mem_univ, iff_true]
  rcases Nat.lt_or_ge (i 0).val 1 with h' | h'
  · left; exact (mem_rM 0 i).2 (by show _ = 0; omega)
  · right; exact (mem_rM 1 i).2 (by show _ = 1; omega)
theorem coverA : (vA 0).set ∪ (vA 1).set = Finset.univ := by
  rw [setA, setA]; ext i
  have h : (i 0).val < 2 := (i 0).isLt
  simp only [Finset.mem_union, Finset.mem_univ, iff_true]
  rcases Nat.lt_or_ge (i 0).val 1 with h' | h'
  · left; exact (mem_rA 0 i).2 (by show _ = 0; omega)
  · right; exact (mem_rA 1 i).2 (by show _ = 1; omega)

theorem split_any {ℓ : Loc nD τ sig} {I J : Finset (Idx ℓ)} (hd : Disjoint I J) (hc : I ∪ J = Finset.univ) :
    iprop(∃ f : Buf (Elt F) ℓ, ℓ ↦{fullShare} f) ⊣⊢ (iprop((∃ f : Buf (Elt F) ℓ, ℓ ↦[I]{fullShare} f) ∗ (∃ f : Buf (Elt F) ℓ, ℓ ↦[J]{fullShare} f)) : sProp 𝕄) := by
  constructor
  · iintro ⟨%f, H⟩
    rw [← hc]
    ihave H' := (pointsTo_union hd).1 $$ H
    icases H' with ⟨H1, H2⟩
    isplitl [H1]
    · iexists f; iexact H1
    · iexists f; iexact H2
  · iintro ⟨⟨%f, H1⟩, ⟨%g, H2⟩⟩
    ihave H := (pointsTo_join hd) $$ [H1 H2]
    · isplitl [H1]
      · iexact H1
      · iexact H2
    iexists (J.piecewise g f)
    rw [hc]
    iexact H

theorem wholeX (c : Dev nD) : iprop(∃ f : Buf (Elt F) (xLoc c), xLoc c ↦{fullShare} f) ⊣⊢ (iprop(anyX c 0 ∗ anyX c 1) : sProp 𝕄) :=
  split_any disjX coverX
theorem wholeM (c : Dev nD) : iprop(∃ f : Buf (Elt F) (mLoc c), mLoc c ↦{fullShare} f) ⊣⊢ (iprop(anyM c 0 ∗ anyM c 1) : sProp 𝕄) :=
  split_any disjM coverM
theorem wholeA (c : Dev nD) : iprop(∃ f : Buf (Elt F) (aLoc c), aLoc c ↦{fullShare} f) ⊣⊢ (iprop(anyA c 0 ∗ anyA c 1) : sProp 𝕄) :=
  split_any disjA coverA

/-! ## What the operations leave in a slot -/

/-- An index of a row, inside its slot. -/
def rowIdx (j : Fin 2) (z : S1x1x1024.Idx) : S1x2x1024.Idx := fun a => match a with | ⟨0, _⟩ => z 0 | ⟨1, _⟩ => j | ⟨2, _⟩ => z 2

theorem row_emb (s j : Fin 2) (z : S1x1x1024.Idx) : (rM s).emb (rowIdx j z) = (rR s j).emb z := by
  refine Shape.idx3_ext ?_ ?_ ?_
  · rfl
  · have : (z 1).val < 1 := (z 1).isLt
    show 0 + 1 * j.val = j.val + 1 * (z 1).val
    omega
  · rfl

/-- A row's read is its slot's. -/
theorem row_read (s j : Fin 2) (f : (cc0_scratch1 : Ref sig .tc).ty.Contents (Elt F)) (z : S1x1x1024.Idx) :
    (vR s j).read (Elt F) f z = (vM s).read (Elt F) f (rowIdx j z) := by
  show f ((rR s j).emb z) = f ((rM s).emb (rowIdx j z))
  rw [row_emb]

theorem setR_sub (s j : Fin 2) : (vR s j).set ⊆ (vM s).set := by
  intro i hi
  rw [setM]; rw [show (vR s j).set = (rR s j).set from View.set_slice_whole _ _] at hi
  rw [LoadRect.mem_set] at hi
  obtain ⟨k, hk, e⟩ := hi 0
  refine (mem_rM s i).2 ?_
  have hk' : k < 1 := hk
  have e' : (i 0).val = s.val + 1 * k := e
  omega

theorem disjR (s : Fin 2) : Disjoint (rR s 0).set (rR s 1).set := Rect.disjoint_of_separated _ _ 1 (by left; right; show 0 + 1 * (1 - 1) < 1; decide)

/-- Both rows stored, one after the other, each holds what was stored. -/
theorem rows_stored (s : Fin 2) (f : (cc0_scratch1 : Ref sig .tc).ty.Contents (Elt F)) (i p : Vec F S1x1x1024 .f32) :
    (vR s 0).read (Elt F) ((vR s 1).write (Elt F) ((vR s 0).write (Elt F) f i Finset.univ) p Finset.univ) = i
      ∧ (vR s 1).read (Elt F) ((vR s 1).write (Elt F) ((vR s 0).write (Elt F) f i Finset.univ) p Finset.univ) = p := by
  refine ⟨?_, View.read_write_univ _ _⟩
  refine (View.read_slice_write_slice_of_disjoint (v := mM.view) (rR s 0) (rR s 1) _ _ _ ?_).trans (View.read_write_univ _ _)
  exact View.disjoint_slice (disjR s)

/-- A slot copied into a slot holds the same packet. -/
theorem copyX (s t : Fin 2) (fs fd : (cc0_scratch0 : Ref sig .tc).ty.Contents (Elt F)) :
    (vX t).read (Elt F) ((xQ t).view.write (Elt F) fd ((xQ s).view.read (Elt F) fs) Finset.univ) = (vX s).read (Elt F) fs := by
  funext z
  obtain ⟨y, rfl⟩ := (Shape.reshapeEquiv (s := S1x1024x512) (s' := S1024x512) (by decide)).surjective z
  refine (View.read_write_reshape (vX t) _ fd _ y).trans ?_
  rfl

theorem copyA (s t : Fin 2) (fs fd : (cc0_scratch2 : Ref sig .tc).ty.Contents (Elt F)) :
    (vA t).read (Elt F) ((aQ t).view.write (Elt F) fd ((aQ s).view.read (Elt F) fs) Finset.univ) = (vA s).read (Elt F) fs := by
  funext z
  obtain ⟨y, rfl⟩ := (Shape.reshapeEquiv (s := S1x1024x1024) (s' := S1024x1024) (by decide)).surjective z
  refine (View.read_write_reshape (vA t) _ fd _ y).trans ?_
  rfl
theorem copyM (s t : Fin 2) (fs fd : (cc0_scratch1 : Ref sig .tc).ty.Contents (Elt F)) :
    (vM t).read (Elt F) ((mQ t).view.write (Elt F) fd ((mQ s).view.read (Elt F) fs) Finset.univ) = (vM s).read (Elt F) fs := by
  funext z
  obtain ⟨y, rfl⟩ := (Shape.reshapeEquiv (s := S1x2x1024) (s' := S2x1024) (by decide)).surjective z
  refine (View.read_write_reshape (vM t) _ fd _ y).trans ?_
  rfl
theorem copyR (s t j : Fin 2) (fs fd : (cc0_scratch1 : Ref sig .tc).ty.Contents (Elt F)) :
    (vR t j).read (Elt F) ((mQ t).view.write (Elt F) fd ((mQ s).view.read (Elt F) fs) Finset.univ) = (vR s j).read (Elt F) fs := by
  funext z
  rw [row_read, row_read, copyM]

/-- The partial result of a packet as the result's staging buffer holds it. -/
def outOf (a : Vec F S1x1024x1024 .f32) : Vec F S1024x1024 .f32 :=
  fun z => a (Shape.reshapeEquiv (s := S1x1024x1024) (s' := S1024x1024) (by decide) z)

/-- Slot 1 of the third buffer copied into the result's staging buffer. -/
theorem copyO (fs : (cc0_scratch2 : Ref sig .tc).ty.Contents (Elt F)) (fd : (cc0_stg5_0 : Ref sig .tc).ty.Contents (Elt F)) :
    oM.view.write (Elt F) fd ((aQ 1).view.read (Elt F) fs) Finset.univ = outOf ((vA 1).read (Elt F) fs) := by
  refine (View.write_whole_univ _ _ _).trans ?_
  rfl

end Cert.Proof.Ring

end
-- ==== Proof.Sched.lean ====
/-
  The schedule of the cells: which duties each round has, of how many units, and what their units hand over; what each
  device owes, hop by hop; and the levels under which every wait sits below what the waiting device then owes.
-/
module

public import proofs.«01_k».proof.Proof.Slots

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The packets of the run -/

/-- The five inputs of device `c` as the pipeline fetches them into the staging buffers. -/
def in0 (c : Dev nD) : (cc0_stg0_0 : Ref sig .tc).ty.Contents (Elt F) := (win0_0.blk (0 : Fin 1)).view.read (Elt F) ((s₀ m ρ).mem ((c : Thread nD τ).loc main_arg0))
def in1 (c : Dev nD) : (cc0_stg1_0 : Ref sig .tc).ty.Contents (Elt F) := (win0_1.blk (0 : Fin 1)).view.read (Elt F) ((s₀ m ρ).mem ((c : Thread nD τ).loc main_arg1))
def in2 (c : Dev nD) : (cc0_stg2_0 : Ref sig .tc).ty.Contents (Elt F) := (win0_2.blk (0 : Fin 1)).view.read (Elt F) ((s₀ m ρ).mem ((c : Thread nD τ).loc main_arg2))
def in3 (c : Dev nD) : (cc0_stg3_0 : Ref sig .tc).ty.Contents (Elt F) := (win0_3.blk (0 : Fin 1)).view.read (Elt F) ((s₀ m ρ).mem ((c : Thread nD τ).loc main_arg3))
def in4 (c : Dev nD) : (cc0_stg4_0 : Ref sig .tc).ty.Contents (Elt F) := (win0_4.blk (0 : Fin 1)).view.read (Elt F) ((s₀ m ρ).mem ((c : Thread nD τ).loc main_arg4))

/-- The experts' staging buffer, whole, and one expert's rectangle of it. -/
abbrev eM : Memref sig .tc .vmem S4x512x1024 .f32 := Memref.whole cc0_stg3_0
theorem inbE (j : Fin 4) : ∀ a, (![j.val, 0, 0] : Fin 3 → ℕ) a + S1x512x1024.size a ≤ S4x512x1024.size a := by revert j; decide
abbrev rE (j : Fin 4) : Rect S4x512x1024 := Rect.unit (s := S4x512x1024) ![j.val, 0, 0] S1x512x1024.size (inbE j)

/-- The weights of device `c`'s expert `j`, as a load reads them. -/
def expW (c : Dev nD) (j : Fin 4) : Vec F S1x512x1024 .f32 := eM.view.readAt (Elt F) (rE j).toLoadRect (in3 m ρ c)

/-- Device `c` adds its share. -/
def share (c : Dev nD) (T : Pkt F) : Pkt F := T.add (meW c) (expW m ρ c)

/-- The packet device `c` holds at the start of its hop `h`. -/
def pk : ℕ → Dev nD → Pkt F
  | 0, c => pkt0 (in0 m ρ c) (in1 m ρ c) (in2 m ρ c) (in4 m ρ c)
  | h + 1, c => share m ρ (prv c) (pk h (prv c))

/-- The packet device `c` sends on in its hop `h`. -/
def pk' (h : ℕ) (c : Dev nD) : Pkt F := share m ρ c (pk m ρ h c)

theorem pk_succ (h : ℕ) (c : Dev nD) : pk m ρ (h + 1) c = pk' m ρ h (prv c) := rfl
theorem pk'_nxt (h : ℕ) (c : Dev nD) : pk m ρ (h + 1) (nxt c) = pk' m ρ h c := by rw [pk_succ, prv_nxt]

/-- The result on device `c`: the partial result of the packet that has been round the ring. -/
def res (c : Dev nD) : Vec F S1024x1024 .f32 := outOf (pk' m ρ 31 (prv c)).a

/-! ## The schedule -/

/-- The hop that pays a round of a send cell, and of a receive cell. -/
def hopS (s : Fin 2) (r : ℕ) : ℕ := 2 * r + s.val
def hopR (t : Fin 2) (r : ℕ) : ℕ := 2 * r + 1 - t.val

theorem hopS_sl (h : ℕ) : hopS (sl h) (h / 2) = h := by unfold hopS sl; show 2 * (h / 2) + h % 2 = h; omega
theorem hopR_sl (h : ℕ) : hopR (sl (h + 1)) (h / 2) = h := by unfold hopR sl; show 2 * (h / 2) + 1 - (h + 1) % 2 = h; omega

def dutiesK (k : CK) (r : ℕ) : Finset Bool :=
  match k with
  | .bar => if r = 0 then Finset.univ else ∅
  | .cred => if r < 31 then {false} else ∅
  | .snd _ s => if hopS s r < 31 then {false} else ∅
  | .rcv _ t => if hopR t r < 31 then {false} else ∅
  | .so => if r = 0 then {false} else ∅
  | .ro => if r = 0 then {false} else ∅

def amountK (k : CK) : ℕ :=
  match k with
  | .bar => 1 | .cred => 1 | .snd b _ => NN b | .rcv b _ => NN b | .so => NO | .ro => NO

theorem amountK_pos (k : CK) : 0 < amountK k := by
  cases k with
  | bar => exact Nat.one_pos
  | cred => exact Nat.one_pos
  | snd b s => exact NN_pos b
  | rcv b s => exact NN_pos b
  | so => exact NO_pos
  | ro => exact NO_pos

/-- What device `c` needs of `nxt c` to send in its hop `h`: the slot it copies into, with the receive cells of that slot
    at the round the copies pay. -/
def grant (c : Dev nD) (h : ℕ) : sProp 𝕄 :=
  iprop(slots (nxt c) (sl (h + 1)) ∗ reached ER (cell (nxt c) (.rcv 0 (sl (h + 1)))) (h / 2)
    ∗ reached ER (cell (nxt c) (.rcv 1 (sl (h + 1)))) (h / 2) ∗ reached ER (cell (nxt c) (.rcv 2 (sl (h + 1)))) (h / 2))

/-- What a credit of round `r` hands its receiver `c`. -/
def credPay (c : Dev nD) (r : ℕ) : sProp 𝕄 := grant c (r + 1)

/-- What a landing on the receive cell of buffer `b` hands over beside the slot. -/
def rcvExtra (b : Fin 3) (c : Dev nD) (h : ℕ) : sProp 𝕄 := if b = 2 then reached ER (cell (prv c) .cred) h else iprop(emp)

/-- What the barrier unit of `nxt c` hands `c`. -/
def barPay (c : Dev nD) : sProp 𝕄 := iprop(slots (nxt c) 1 ∗ (∃ f, outP (nxt c) f))

def payK (c : Dev nD) (k : CK) (r : ℕ) (d : Bool) : sProp 𝕄 :=
  match k with
  | .bar => if d then barPay c else iprop(emp)
  | .cred => if r < 30 then credPay c r else iprop(emp)
  | .snd b s => slotP b c s (pk' m ρ (hopS s r) c)
  | .rcv b t => iprop(slotP b c t (pk m ρ (hopR t r + 1) c) ∗ rcvExtra b c (hopR t r))
  | .so => slotA c 1 (pk' m ρ 31 c)
  | .ro => outP c (res m ρ c)

instance credPay_storable (c : Dev nD) (r : ℕ) : BI.Storable (upEmb : UEmb _ 𝕄) (credPay (F := F) c r) := by unfold credPay grant; infer_instance
instance rcvExtra_storable (b : Fin 3) (c : Dev nD) (h : ℕ) : BI.Storable (upEmb : UEmb _ 𝕄) (rcvExtra (F := F) b c h) := by
  unfold rcvExtra; split <;> infer_instance
instance barPay_storable (c : Dev nD) : BI.Storable (upEmb : UEmb _ 𝕄) (barPay (F := F) c) := by unfold barPay; infer_instance
instance payK_storable (c : Dev nD) (k : CK) (r : ℕ) (d : Bool) : BI.Storable (upEmb : UEmb _ 𝕄) (payK m ρ c k r d) := by
  unfold payK
  split
  · split <;> infer_instance
  · split <;> infer_instance
  all_goals infer_instance

def rd : Rounds.Schedule (GSem nD τ sig) Bool 𝕄 where
  duties g r := (kindG g).elim ∅ fun k => dutiesK k r
  unitless _ := False
  amount g _ _ := (kindG g).elim 1 amountK
  payload g r d := (kindG g).elim iprop(emp) fun k => payK m ρ g.1.1 k r d
  amount_pos g r d _ := by
    cases kindG g with
    | none => exact Nat.one_pos
    | some k => exact amountK_pos k

instance rd_storable (g : GSem nD τ sig) (r : ℕ) (d : Bool) : BI.Storable (upEmb : UEmb _ 𝕄) ((rd (F := F) m ρ).payload g r d) := by
  show BI.Storable upEmb ((kindG g).elim iprop(emp) fun k => payK m ρ g.1.1 k r d)
  cases kindG g with
  | none => exact inferInstanceAs (BI.Storable upEmb (iprop(emp) : sProp 𝕄))
  | some k => exact payK_storable m ρ g.1.1 k r d

theorem duties_cell (c : Dev nD) (k : CK) (r : ℕ) : (rd (F := F) m ρ).duties (cell c k) r = dutiesK k r := by
  show (kindG (cell c k)).elim ∅ _ = _; rw [kindG_cell]; rfl
theorem amount_cell (c : Dev nD) (k : CK) (r : ℕ) (d : Bool) : (rd (F := F) m ρ).amount (cell c k) r d = amountK k := by
  show (kindG (cell c k)).elim 1 _ = _; rw [kindG_cell]; rfl
theorem payload_cell (c : Dev nD) (k : CK) (r : ℕ) (d : Bool) : (rd (F := F) m ρ).payload (cell c k) r d = payK m ρ c k r d := by
  show (kindG (cell c k)).elim _ _ = _; rw [kindG_cell]; rfl

/-- A cell's round that has the one duty. -/
theorem expect_one (c : Dev nD) (k : CK) (r : ℕ) (h : dutiesK k r = {false}) : (rd (F := F) m ρ).expect (cell c k) r = amountK k := by
  unfold Schedule.expect Schedule.amountOf
  rw [duties_cell, h, Finset.sum_singleton, amount_cell]
theorem rest_one (c : Dev nD) (k : CK) (r : ℕ) (h : dutiesK k r = {false}) :
    bigSep ((rd (F := F) m ρ).duties (cell c k) r \ ∅) (fun d => (rd (F := F) m ρ).payload (cell c k) r d) = payK m ρ c k r false := by
  rw [Finset.sdiff_empty, duties_cell, h, bigSep_singleton, payload_cell]
theorem expect_bar (c : Dev nD) : (rd (F := F) m ρ).expect (cell c .bar) 0 = 2 := by
  unfold Schedule.expect Schedule.amountOf
  rw [duties_cell, show dutiesK .bar 0 = Finset.univ from rfl, Finset.sum_congr rfl fun d _ => amount_cell m ρ c .bar 0 d, Finset.sum_const, Finset.card_univ, Fintype.card_bool, smul_eq_mul]
  rfl
theorem rest_bar (c : Dev nD) :
    bigSep ((rd (F := F) m ρ).duties (cell c .bar) 0 \ ∅) (fun d => (rd (F := F) m ρ).payload (cell c .bar) 0 d) = iprop(emp ∗ barPay c) := by
  rw [Finset.sdiff_empty, duties_cell, show dutiesK .bar 0 = Finset.univ from rfl, bigSep_univ_eq_bigSepL [false, true] (by decide) (by decide), bigSepL_cons_cons, bigSepL_singleton,
    payload_cell, payload_cell]
  rfl

/-! ## What a device owes -/

/-- What hop `h` of device `c` pays: the three receive cells of `nxt c`, the credit cell of `prv c`. -/
def dueA (c : Dev nD) (h : ℕ) : CellTallies nD τ sig ℕ := tallyAt (cell (prv c) .cred) h 1
def dueR (b : Fin 3) (c : Dev nD) (h : ℕ) : CellTallies nD τ sig ℕ := tallyAt (cell (nxt c) (.rcv b (sl (h + 1)))) h (NN b)
def due (c : Dev nD) (h : ℕ) : CellTallies nD τ sig ℕ := dueA c h + dueR 2 c h + dueR 1 c h + dueR 0 c h

/-- What device `c` owes from its hop `h` on. -/
def owe (c : Dev nD) (h : ℕ) : CellTallies nD τ sig ℕ := tallyAt (cell (nxt c) .ro) 31 NO + ∑ j ∈ Finset.Ico h 31, due c j

theorem owe_step (c : Dev nD) (h : ℕ) (hh : h < 31) : owe c h = owe c (h + 1) + dueA c h + dueR 2 c h + dueR 1 c h + dueR 0 c h := by
  have hi : Finset.Ico h 31 = insert h (Finset.Ico (h + 1) 31) := by ext j; simp only [Finset.mem_insert, Finset.mem_Ico]; omega
  unfold owe; rw [hi, Finset.sum_insert (by simp)]; unfold due; ac_rfl
theorem owe_last (c : Dev nD) : owe c 31 = 0 + tallyAt (cell (nxt c) .ro) 31 NO := by
  unfold owe; rw [Finset.Ico_self, Finset.sum_empty, add_comm]

/-- At launch it owes both neighbours' barrier cells too. -/
def oweB (c : Dev nD) : CellTallies nD τ sig ℕ := owe c 0 + tallyAt (cell (nxt c) .bar) 0 1
def oweAll (c : Dev nD) : CellTallies nD τ sig ℕ := oweB c + tallyAt (cell (prv c) .bar) 0 1

/-! ## Levels -/

def lvK (k : CK) (i : ℕ) : ℕ :=
  match k with
  | .bar => 1 | .cred => 2 * i + 3 | .snd _ _ => 0 | .rcv _ _ => 2 * i + 2 | .so => 0 | .ro => 100

def lv (g : GSem nD τ sig) (i : ℕ) : ℕ := (kindG g).elim 0 fun k => lvK k i
def L (g : GSem nD τ sig) : Finset ℕ := if g.1.2 = .tc then Finset.range 32 else ∅

theorem L_of_ne (g : GSem nD τ sig) (h : g.1.2 ≠ .tc) : L g = ∅ := if_neg h
theorem L_cell (c : Dev nD) (sm : SemLoc sig) : L ((c : Thread nD τ), sm) = Finset.range 32 := if_pos rfl
theorem lv_cell (c : Dev nD) (k : CK) (i : ℕ) : lv (cell c k) i = lvK k i := by unfold lv; rw [kindG_cell]; rfl

/-- Every cell and index a tally counts is one of the levels' and lies above `n`. -/
def Above (n : ℕ) (O : CellTallies nD τ sig ℕ) : Prop :=
  ∀ (g : GSem nD τ sig) (i : ℕ), 0 < O g i → i ∈ L g ∧ n < lv g i

theorem Above.zero (n : ℕ) : Above n 0 := fun g i h => absurd h (Nat.lt_irrefl 0)
theorem Above.add {n : ℕ} {O O' : CellTallies nD τ sig ℕ} (h : Above n O) (h' : Above n O') : Above n (O + O') := fun g i hp => by
  rw [Pi.add_apply, Finsupp.add_apply] at hp
  rcases Nat.eq_zero_or_pos (O g i) with h0 | h0
  · exact h' g i (by omega)
  · exact h g i h0
theorem Above.tally {n : ℕ} (c : Dev nD) (k : CK) (i k' : ℕ) (hi : i < 32) (hn : n < lvK k i) : Above n (tallyAt (cell c k) i k') := fun g j hp => by
  obtain ⟨rfl, rfl⟩ := Pipeline.tallyAt_pos hp
  rw [lv_cell, L_cell]
  exact ⟨Finset.mem_range.2 hi, hn⟩
theorem Above.sum {n : ℕ} (S : Finset ℕ) (D : ℕ → CellTallies nD τ sig ℕ) (h : ∀ j ∈ S, Above n (D j)) : Above n (∑ j ∈ S, D j) := by
  classical
  revert h
  induction S using Finset.induction with
  | empty => intro _; rw [Finset.sum_empty]; exact Above.zero n
  | insert a S ha ih => intro h; rw [Finset.sum_insert ha]; exact (h _ (Finset.mem_insert_self _ _)).add (ih fun j hj => h j (Finset.mem_insert_of_mem hj))

theorem Above.due {n : ℕ} (c : Dev nD) (h : ℕ) (hh : h < 31) (hn : n < 2 * h + 2) : Above n (due c h) := by
  unfold Ring.due dueA dueR
  refine (((Above.tally _ _ _ _ (by omega) ?_).add (Above.tally _ _ _ _ (by omega) ?_)).add (Above.tally _ _ _ _ (by omega) ?_)).add (Above.tally _ _ _ _ (by omega) ?_)
  · show n < 2 * h + 3; omega
  all_goals exact hn

/-- What is owed from hop `h` on lies above the level of any wait before it. -/
theorem Above.owe {n : ℕ} (c : Dev nD) (h : ℕ) (hn : n < 2 * h + 2) (hn' : n < 100) : Above n (owe c h) := by
  unfold Ring.owe
  refine (Above.tally _ _ _ _ (by omega) hn').add (Above.sum _ _ fun j hj => ?_)
  rw [Finset.mem_Ico] at hj
  exact Above.due c j hj.2 (by omega)

theorem Above.dueA {n : ℕ} (c : Dev nD) (h : ℕ) (hh : h < 31) (hn : n < 2 * h + 3) : Above n (dueA c h) :=
  Above.tally _ _ _ _ (by omega) hn

theorem Above.oweAll (c : Dev nD) : Above 0 (oweAll c) := by
  unfold Ring.oweAll oweB
  exact ((Above.owe c 0 (by omega) (by omega)).add (Above.tally _ _ _ _ (by omega) (by decide))).add (Above.tally _ _ _ _ (by omega) (by decide))

/-- A wait at a level that all that is owed lies above is allowed. -/
theorem mayWait_sem (c : Dev nD) (sm : SemLoc sig) (i : ℕ) (O : CellTallies nD τ sig ℕ) (hi : i < 32) (hO : Above (lv ((c : Thread nD τ), sm) i) O) :
    (levAts L lv : sProp 𝕄) ⊢ MayWait (c : Thread nD τ) sm i O :=
  MayOwe.of_cut (L := L) (lev := lv) (lv ((c : Thread nD τ), sm) i)
    (fun p hp => by rw [Finset.mem_singleton.mp hp, L_cell]; exact Finset.mem_range.2 hi)
    (fun g u hg => (hO g u hg).1) (fun p hp => by rw [Finset.mem_singleton.mp hp]) (fun g u hg => (hO g u hg).2)

theorem mayWait_cell (c : Dev nD) (k : CK) (i : ℕ) (O : CellTallies nD τ sig ℕ) (hi : i < 32) (hO : Above (lvK k i) O) :
    (levAts L lv : sProp 𝕄) ⊢ MayWait (c : Thread nD τ) (csem k) i O :=
  mayWait_sem c (csem k) i O hi (by rw [show lv ((c : Thread nD τ), csem k) i = lvK k i from lv_cell c k i]; exact hO)

/-! ## All the cells' invariants -/

/-- The invariant of every cell of every device, each under some name. -/
def invs : sProp 𝕄 := bigSep Finset.univ fun q : Dev nD × CK => iprop(∃ κ, cellInv ER (rd m ρ) κ (cell q.1 q.2))

instance invs_persistent : BI.Persistent (invs m ρ : sProp 𝕄) := by unfold invs; infer_instance

theorem inv_at (c : Dev nD) (k : CK) : (invs m ρ : sProp 𝕄) ⊢ iprop(∃ κ, cellInv ER (rd m ρ) κ (cell c k)) := by
  unfold invs
  exact bigSep_elim (Finset.mem_univ (c, k))

end Cert.Proof.Ring

end
-- ==== Proof.Steps.lean ====
/-
  One step of a device's program at a time: the copies of a hop, the waits for them, the credits. Each is stated at any
  operands that denote the hop's, so the first hop, the loop's hops and the last hop share them.
-/
module

public import proofs.«01_k».proof.Proof.Sched

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- What is owed, whatever has been waited for. -/
def owed (c : Dev nD) (O : CellTallies nD τ sig ℕ) : sProp 𝕄 := iprop(∃ W, owes (c : Thread nD τ) O W)

/-- A position, with the fact that its round is reached. -/
def at' (c : Dev nD) (k : CK) (r : ℕ) : sProp 𝕄 := iprop(atPos ER (cell c k) r ∅ 0 ∗ reached ER (cell c k) r)

/-- Where device `c` stands before hop `h` on the two send cells of buffer `b`, -/
def sndPos (b : Fin 3) (c : Dev nD) (h : ℕ) : sProp 𝕄 := iprop(at' c (.snd b (sl h)) (h / 2) ∗ at' c (.snd b (sl (h + 1))) ((h + 1) / 2))
/-- and on its two receive cells. -/
def rcvPos (b : Fin 3) (c : Dev nD) (h : ℕ) : sProp 𝕄 := iprop(at' c (.rcv b (sl (h + 1))) (h / 2) ∗ at' c (.rcv b (sl h)) ((h + 1) / 2))

theorem half_step (h : ℕ) : h / 2 + 1 = (h + 1 + 1) / 2 := by omega
theorem sl_step (h : ℕ) : sl (h + 1 + 1) = sl h := sl_add_two h

theorem sndPos_next (b : Fin 3) (c : Dev nD) (h : ℕ) :
    iprop(at' c (.snd b (sl h)) (h / 2 + 1) ∗ at' c (.snd b (sl (h + 1))) ((h + 1) / 2)) ⊢ (sndPos b c (h + 1) : sProp 𝕄) := by
  unfold sndPos; rw [half_step, sl_step]; iintro ⟨H1, H2⟩; isplitl [H2] <;> iassumption
theorem rcvPos_next (b : Fin 3) (c : Dev nD) (h : ℕ) :
    iprop(at' c (.rcv b (sl (h + 1))) (h / 2 + 1) ∗ at' c (.rcv b (sl h)) ((h + 1) / 2)) ⊢ (rcvPos b c (h + 1) : sProp 𝕄) := by
  unfold rcvPos; rw [half_step, sl_step]; iintro ⟨H1, H2⟩; isplitl [H2] <;> iassumption

theorem duties_snd (b : Fin 3) (h : ℕ) (hh : h < 31) : dutiesK (.snd b (sl h)) (h / 2) = {false} := by
  show (if hopS (sl h) (h / 2) < 31 then ({false} : Finset Bool) else ∅) = _; rw [hopS_sl, if_pos hh]
theorem duties_rcv (b : Fin 3) (h : ℕ) (hh : h < 31) : dutiesK (.rcv b (sl (h + 1))) (h / 2) = {false} := by
  show (if hopR (sl (h + 1)) (h / 2) < 31 then ({false} : Finset Bool) else ∅) = _; rw [hopR_sl, if_pos hh]
theorem duties_cred (h : ℕ) (hh : h < 31) : dutiesK .cred h = {false} := if_pos hh

/-! ## Waits -/

/-- A wait for a round that has the one duty: its amount is credited, and its payload comes with the next position. -/
theorem wait_one (c : Dev nD) (k : CK) (r i : ℕ) (hd : dutiesK k r = {false}) (hi : i < 32)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = csem k) (hk : k' = amountK k) {O : CellTallies nD τ sig ℕ} (hO : Above (lvK k i) O)
    {β : Type} {kont : PUnit → Prog (TpuEff nD τ sig (Elt F) Λ₀ .tc) β} {Q : β → sProp 𝕄} :
    iprop(invs m ρ ∗ levAts L lv ∗ cred (tallyAt (cell c k) i (amountK k)) ∗ owed c O ∗ atPos ER (cell c k) r ∅ 0)
      ⊢ iprop((owed c O -∗ at' c k (r + 1) -∗ payK m ρ c k r false
          -∗ wp frame (wpE (defs₀ (F := F)) 𝒱₀ (c : Thread nD τ) none) Set.univ (kont ⟨⟩) Q)
        -∗ wp frame (wpE (defs₀ (F := F)) 𝒱₀ (c : Thread nD τ) none) Set.univ (.op w kont) Q) := by
  subst hsm; subst hk
  unfold owed at'
  iintro ⟨#HI, #HL, Hc, ⟨%W, HO⟩, Hat⟩ HK
  ihave Hiv := (inv_at m ρ c k) $$ HI
  icases Hiv with ⟨%κ, #Hκ⟩
  ihave Hmw := (mayWait_cell (F := F) c k i O hi hO) $$ HL
  have e := rest_one m ρ c k r hd
  iapply (Rounds.wp_wait_rest_token 𝒱₀ ER (rd m ρ) (c : Thread nD τ) none (κ := κ) hw (Set.mem_univ κ) i (O := O) (W := W) (R := r) (m := 0) (T := ∅)
      (show 0 + amountK k = (rd m ρ).expect (cell c k) r by rw [expect_one m ρ c k r hd, Nat.zero_add])) $$ [Hc HO Hmw Hat]
  · isplitr; · iexact Hκ
    isplitl [Hc]; · iexact Hc
    isplitl [HO]; · iexact HO
    isplitl [Hmw]; · iexact Hmw
    iexact Hat
  rw [e]
  iintro ⟨HO, Hat, Hr, Hp⟩
  iapply HK $$ [HO] [Hat Hr] [Hp]
  · iexists _; iexact HO
  · isplitl [Hat] <;> iassumption
  · iexact Hp

/-- The waits of hop `h`: for a sent slot of buffer `b`, -/
theorem waitSnd (b : Fin 3) (c : Dev nD) (h : ℕ) (hh : h < 31)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = csem (.snd b (sl h))) (hk : k' = NN b) {O : CellTallies nD τ sig ℕ} (hO : Above 0 O)
    {β : Type} {kont : PUnit → Prog (TpuEff nD τ sig (Elt F) Λ₀ .tc) β} {Q : β → sProp 𝕄} :
    iprop(invs m ρ ∗ levAts L lv ∗ cred (tallyAt (cell c (.snd b (sl h))) 0 (NN b)) ∗ owed c O ∗ sndPos b c h)
      ⊢ iprop((owed c O -∗ sndPos b c (h + 1) -∗ slotP b c (sl h) (pk' m ρ h c)
          -∗ wp frame (wpE (defs₀ (F := F)) 𝒱₀ (c : Thread nD τ) none) Set.univ (kont ⟨⟩) Q)
        -∗ wp frame (wpE (defs₀ (F := F)) 𝒱₀ (c : Thread nD τ) none) Set.univ (.op w kont) Q) := by
  rw [show sndPos b c h = (iprop((atPos ER (cell c (.snd b (sl h))) (h / 2) ∅ 0 ∗ reached ER (cell c (.snd b (sl h))) (h / 2)) ∗ at' c (.snd b (sl (h + 1))) ((h + 1) / 2)) : sProp 𝕄) from rfl]
  iintro ⟨HI, HL, Hc, HO, ⟨Hat, -⟩, Hat2⟩ HK
  iapply (wait_one m ρ c (.snd b (sl h)) (h / 2) 0 (duties_snd b h hh) (by omega) hw hsm hk hO) $$ [HI HL Hc HO Hat]
  · isplitl [HI]; · iexact HI
    isplitl [HL]; · iexact HL
    isplitl [Hc]; · iexact Hc
    isplitl [HO] <;> iassumption
  have e : payK m ρ c (.snd b (sl h)) (h / 2) false = slotP b c (sl h) (pk' m ρ h c) := by
    show slotP b c (sl h) (pk' m ρ (hopS (sl h) (h / 2)) c) = _; rw [hopS_sl]
  rw [e]
  iintro HO Hat Hp
  iapply HK $$ [HO] [Hat Hat2] [Hp]
  · iexact HO
  · iapply (sndPos_next b c h); isplitl [Hat] <;> iassumption
  · iexact Hp

/-- and for a received one. -/
theorem waitRcv (b : Fin 3) (c : Dev nD) (h : ℕ) (hh : h < 31)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = csem (.rcv b (sl (h + 1)))) (hk : k' = NN b) {O : CellTallies nD τ sig ℕ} (hO : Above (2 * h + 2) O)
    {β : Type} {kont : PUnit → Prog (TpuEff nD τ sig (Elt F) Λ₀ .tc) β} {Q : β → sProp 𝕄} :
    iprop(invs m ρ ∗ levAts L lv ∗ cred (tallyAt (cell c (.rcv b (sl (h + 1)))) h (NN b)) ∗ owed c O ∗ rcvPos b c h)
      ⊢ iprop((owed c O -∗ rcvPos b c (h + 1) -∗ slotP b c (sl (h + 1)) (pk m ρ (h + 1) c) -∗ rcvExtra b c h
          -∗ wp frame (wpE (defs₀ (F := F)) 𝒱₀ (c : Thread nD τ) none) Set.univ (kont ⟨⟩) Q)
        -∗ wp frame (wpE (defs₀ (F := F)) 𝒱₀ (c : Thread nD τ) none) Set.univ (.op w kont) Q) := by
  rw [show rcvPos b c h = (iprop((atPos ER (cell c (.rcv b (sl (h + 1)))) (h / 2) ∅ 0 ∗ reached ER (cell c (.rcv b (sl (h + 1)))) (h / 2)) ∗ at' c (.rcv b (sl h)) ((h + 1) / 2)) : sProp 𝕄) from rfl]
  iintro ⟨HI, HL, Hc, HO, ⟨Hat, -⟩, Hat2⟩ HK
  iapply (wait_one m ρ c (.rcv b (sl (h + 1))) (h / 2) h (duties_rcv b h hh) (by omega) hw hsm hk hO) $$ [HI HL Hc HO Hat]
  · isplitl [HI]; · iexact HI
    isplitl [HL]; · iexact HL
    isplitl [Hc]; · iexact Hc
    isplitl [HO] <;> iassumption
  have e : payK m ρ c (.rcv b (sl (h + 1))) (h / 2) false = iprop(slotP b c (sl (h + 1)) (pk m ρ (h + 1) c) ∗ rcvExtra b c h) := by
    show iprop(slotP b c (sl (h + 1)) (pk m ρ (hopR (sl (h + 1)) (h / 2) + 1) c) ∗ rcvExtra b c (hopR (sl (h + 1)) (h / 2))) = _; rw [hopR_sl]
  rw [e]
  iintro HO Hat ⟨Hp, Hx⟩
  iapply HK $$ [HO] [Hat Hat2] [Hp] [Hx]
  · iexact HO
  · iapply (rcvPos_next b c h); isplitl [Hat] <;> iassumption
  · iexact Hp
  · iexact Hx

/-- In hop `h + 1`, the wait for the credit of hop `h`. -/
theorem waitCred (c : Dev nD) (h : ℕ) (hh : h < 31)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = csem .cred) (hk : k' = 1) {O : CellTallies nD τ sig ℕ} (hO : Above (2 * h + 3) O)
    {β : Type} {kont : PUnit → Prog (TpuEff nD τ sig (Elt F) Λ₀ .tc) β} {Q : β → sProp 𝕄} :
    iprop(invs m ρ ∗ levAts L lv ∗ cred (tallyAt (cell c .cred) h 1) ∗ owed c O ∗ at' c .cred h)
      ⊢ iprop((owed c O -∗ at' c .cred (h + 1) -∗ (if h < 30 then grant c (h + 1) else iprop(emp))
          -∗ wp frame (wpE (defs₀ (F := F)) 𝒱₀ (c : Thread nD τ) none) Set.univ (kont ⟨⟩) Q)
        -∗ wp frame (wpE (defs₀ (F := F)) 𝒱₀ (c : Thread nD τ) none) Set.univ (.op w kont) Q) := by
  rw [show at' c .cred h = (iprop(atPos ER (cell c .cred) h ∅ 0 ∗ reached ER (cell c .cred) h) : sProp 𝕄) from rfl]
  iintro ⟨HI, HL, Hc, HO, ⟨Hat, -⟩⟩ HK
  iapply (wait_one m ρ c .cred h h (duties_cred h hh) (by omega) hw hsm hk hO) $$ [HI HL Hc HO Hat]
  · isplitl [HI]; · iexact HI
    isplitl [HL]; · iexact HL
    isplitl [Hc]; · iexact Hc
    isplitl [HO] <;> iassumption
  rw [show payK m ρ c .cred h false = (if h < 30 then grant c (h + 1) else iprop(emp) : sProp 𝕄) from rfl]
  iintro HO Hat Hp
  iapply HK $$ [HO] [Hat] [Hp]
  · iexact HO
  · iexact Hat
  · iexact Hp

/-! ## Copies -/

/-- The duties a copy of hop `h` pays. -/
def sendTok (b : Fin 3) (c : Dev nD) (h : ℕ) : sProp 𝕄 :=
  iprop(dutyTok ER (cell c (.snd b (sl h))) (h / 2) false ∗ dutyTok ER (cell (nxt c) (.rcv b (sl (h + 1)))) (h / 2) false)

/-- A copy of hop `h`, of whichever buffer. -/
theorem send_gen (b : Fin 3) (c : Dev nD) (h : ℕ) (hh : h < 31) {s : Shape} {src dst : Memref sig .tc .vmem s .f32} {sS sem : SemLoc sig}
    (hsS : sS = csem (.snd b (sl h))) (hsem : sem = csem (.rcv b (sl (h + 1)))) (hN : dst.view.amount sem = NN b)
    {hsc : dst.view.ref.isScScratch = false} {hw : src.view.WordExact} {hw' : dst.view.WordExact}
    {ht : DmaTarget.Typed (p := .tc) .vmem sem (.remote (nxt c : Thread nD τ) dst sS hsc)} {O : CellTallies nD τ sig ℕ}
    {fs : Buf (Elt F) (src.view.loc (c : Thread nD τ))} {fd : Buf (Elt F) (dst.view.loc (nxt c : Thread nD τ))}
    (h1 : (src.view.loc (c : Thread nD τ) ↦[src.view.set]{fullShare} fs) ⊢ (slotP b c (sl h) (pk' m ρ h c) : sProp 𝕄))
    (h2 : (dst.view.loc (nxt c : Thread nD τ) ↦[dst.view.set]{fullShare} dst.view.write (Elt F) fd (src.view.read (Elt F) fs) Finset.univ)
      ⊢ (slotP b (nxt c) (sl (h + 1)) (pk m ρ (h + 1) (nxt c)) : sProp 𝕄))
    {β : Type} {kont : PUnit → Prog (TpuEff nD τ sig (Elt F) Λ₀ .tc) β} {Q : β → sProp 𝕄} :
    iprop(invs m ρ ∗ (src.view.loc (c : Thread nD τ) ↦[src.view.set]{fullShare} fs) ∗ (dst.view.loc (nxt c : Thread nD τ) ↦[dst.view.set]{fullShare} fd)
        ∗ owed c (O + dueR b c h) ∗ sendTok b c h
        ∗ reached ER (cell c (.snd b (sl h))) (h / 2) ∗ reached ER (cell (nxt c) (.rcv b (sl (h + 1)))) (h / 2) ∗ rcvExtra b (nxt c) h)
      ⊢ iprop((cred (tallyAt (cell c (.snd b (sl h))) 0 (NN b)) -∗ owed c O -∗ wp frame (wpE (defs₀ (F := F)) 𝒱₀ (c : Thread nD τ) none) Set.univ (kont ⟨⟩) Q)
        -∗ wp frame (wpE (defs₀ (F := F)) 𝒱₀ (c : Thread nD τ) none) Set.univ
            (.op (.enqueueDma src (.remote (nxt c : Thread nD τ) dst sS hsc) sem hw hw' ht) kont) Q) := by
  subst hsS; subst hsem
  have hp1 : (src.view.loc (c : Thread nD τ) ↦[src.view.set]{fullShare} fs) ⊢ (rd m ρ).payload (cell c (.snd b (sl h))) (h / 2) false := by
    rw [payload_cell]
    show _ ⊢ slotP b c (sl h) (pk' m ρ (hopS (sl h) (h / 2)) c)
    rw [hopS_sl]; exact h1
  have hp2 : iprop((dst.view.loc (nxt c : Thread nD τ) ↦[dst.view.set]{fullShare} dst.view.write (Elt F) fd (src.view.read (Elt F) fs) Finset.univ) ∗ rcvExtra b (nxt c) h)
      ⊢ (rd m ρ).payload (cell (nxt c) (.rcv b (sl (h + 1)))) (h / 2) false := by
    rw [payload_cell]
    show _ ⊢ iprop(slotP b (nxt c) (sl (h + 1)) (pk m ρ (hopR (sl (h + 1)) (h / 2) + 1) (nxt c)) ∗ rcvExtra b (nxt c) (hopR (sl (h + 1)) (h / 2)))
    rw [hopR_sl]; exact sep_mono_left h2
  unfold owed sendTok
  iintro ⟨#HI, Hs, Hd, ⟨%W, HO⟩, ⟨Ht1, Ht2⟩, Hr1, Hr2, Hx⟩ HK
  ihave Hiv := (inv_at m ρ c (.snd b (sl h))) $$ HI
  icases Hiv with ⟨%κ₁, #Hκ₁⟩
  ihave Hiv := (inv_at m ρ (nxt c) (.rcv b (sl (h + 1)))) $$ HI
  icases Hiv with ⟨%κ₂, #Hκ₂⟩
  iapply (Rounds.wp_send_pointsTo_with (F := rcvExtra (F := F) b (nxt c) h) 𝒱₀ ER (rd m ρ) (c : Thread nD τ) none (c' := (nxt c : Thread nD τ)) (κ₁ := κ₁) (κ₂ := κ₂) (r₁ := h / 2) (r₂ := h / 2)
      (d₁ := false) (d₂ := false) (q := fullShare) (fs := fs) (fd := fd)
      (by rw [duties_cell, duties_snd b h hh]; exact Finset.mem_singleton_self _) (by rw [duties_cell, duties_rcv b h hh]; exact Finset.mem_singleton_self _)
      h 0 (NN b) hN (amount_cell m ρ c _ _ _) (amount_cell m ρ (nxt c) _ _ _) O rfl hp1 hp2) $$ [Hs Hd HO Ht1 Ht2 Hr1 Hr2 Hx]
  · isplitr; · iexact Hκ₁
    isplitr; · iexact Hκ₂
    isplitl [Hs]; · iexact Hs
    isplitl [Hd Hx]
    · isplitl [Hd]; · iexact Hd
      iexact Hx
    isplitl [HO]; · iexact HO
    isplitl [Ht1]; · iexact Ht1
    isplitl [Hr1]; · iexact Hr1
    isplitl [Ht2]; · iexact Ht2
    iexact Hr2
  iintro ⟨Hc, HO⟩
  iapply HK $$ [Hc] [HO]
  · iexact Hc
  · iexists _; iexact HO

theorem setQX (s : Fin 2) : (xQ s).view.set = (vX s).set := View.set_reshape _ _

theorem ofSlotX (c : Dev nD) (s : Fin 2) (T : Pkt F) :
    (slotX c s T : sProp 𝕄) ⊢ iprop(∃ f : Buf (Elt F) ((xQ s).view.loc (c : Thread nD τ)), ⌜(vX s).read (Elt F) f = T.x⌝ ∗ ((xQ s).view.loc (c : Thread nD τ) ↦[(xQ s).view.set]{fullShare} f)) := by
  rw [setQX]; exact Entails.refl _
theorem toSlotX (c : Dev nD) (s : Fin 2) (T : Pkt F) (f : Buf (Elt F) ((xQ s).view.loc (c : Thread nD τ))) (h : (vX s).read (Elt F) f = T.x) :
    (((xQ s).view.loc (c : Thread nD τ) ↦[(xQ s).view.set]{fullShare} f) : sProp 𝕄) ⊢ slotX c s T := by
  rw [setQX]; unfold slotX
  iintro H; iexists f; isplitr
  · ipureintro; exact h
  · iexact H
theorem ofAnyX (c : Dev nD) (s : Fin 2) :
    (anyX c s : sProp 𝕄) ⊢ iprop(∃ f : Buf (Elt F) ((xQ s).view.loc (c : Thread nD τ)), (xQ s).view.loc (c : Thread nD τ) ↦[(xQ s).view.set]{fullShare} f) := by
  rw [setQX]; exact Entails.refl _
theorem sentX (c : Dev nD) (s t : Fin 2) (T : Pkt F) (fs fd : (cc0_scratch0 : Ref sig .tc).ty.Contents (Elt F)) (h : (vX s).read (Elt F) fs = T.x) :
    (((xQ t).view.loc (c : Thread nD τ) ↦[(xQ t).view.set]{fullShare} (xQ t).view.write (Elt F) fd ((xQ s).view.read (Elt F) fs) Finset.univ) : sProp 𝕄) ⊢ slotX c t T :=
  toSlotX c t T _ ((copyX s t fs fd).trans h)

/-- The copy of buffer 0 in hop `h`. -/
theorem sendX (c : Dev nD) (h : ℕ) (hh : h < 31) {src dst : Memref sig .tc .vmem S1024x512 .f32} {n : Dev nD} {sS sem : SemLoc sig}
    (hsr : src = xQ (sl h)) (hds : dst = xQ (sl (h + 1))) (hn : n = nxt c) (hsS : sS = csem (.snd 0 (sl h))) (hsem : sem = csem (.rcv 0 (sl (h + 1))))
    {hsc : dst.view.ref.isScScratch = false} {hw : src.view.WordExact} {hw' : dst.view.WordExact}
    {ht : DmaTarget.Typed (p := .tc) .vmem sem (.remote (n : Thread nD τ) dst sS hsc)} {O : CellTallies nD τ sig ℕ}
    {β : Type} {kont : PUnit → Prog (TpuEff nD τ sig (Elt F) Λ₀ .tc) β} {Q : β → sProp 𝕄} :
    iprop(invs m ρ ∗ slotX c (sl h) (pk' m ρ h c) ∗ anyX (nxt c) (sl (h + 1)) ∗ owed c (O + dueR 0 c h) ∗ sendTok 0 c h
        ∗ reached ER (cell c (.snd 0 (sl h))) (h / 2) ∗ reached ER (cell (nxt c) (.rcv 0 (sl (h + 1)))) (h / 2) ∗ rcvExtra 0 (nxt c) h)
      ⊢ iprop((cred (tallyAt (cell c (.snd 0 (sl h))) 0 (NN 0)) -∗ owed c O -∗ wp frame (wpE (defs₀ (F := F)) 𝒱₀ (c : Thread nD τ) none) Set.univ (kont ⟨⟩) Q)
        -∗ wp frame (wpE (defs₀ (F := F)) 𝒱₀ (c : Thread nD τ) none) Set.univ
            (.op (.enqueueDma src (.remote (n : Thread nD τ) dst sS hsc) sem hw hw' ht) kont) Q) := by
  subst hn
  have hN : dst.view.amount sem = NN 0 := by subst hds; subst hsem; rfl
  iintro ⟨HI, Hs, Hd, H⟩ HK
  ihave Hs := (ofSlotX c (sl h) _) $$ Hs
  icases Hs with ⟨%fs, %hfs, Hs⟩
  ihave Hd := (ofAnyX (nxt c) (sl (h + 1))) $$ Hd
  icases Hd with ⟨%fd, Hd⟩
  have h1 : (((xQ (sl h)).view.loc (c : Thread nD τ) ↦[(xQ (sl h)).view.set]{fullShare} fs) : sProp 𝕄) ⊢ slotP 0 c (sl h) (pk' m ρ h c) :=
    toSlotX c (sl h) _ fs hfs
  have h2 := sentX (nxt c) (sl h) (sl (h + 1)) (pk' m ρ h c) fs fd hfs
  rw [← pk'_nxt] at h2
  subst hsr; subst hds
  iapply (send_gen m ρ 0 c h hh hsS hsem hN (fs := fs) (fd := fd) h1 h2) $$ [HI Hs Hd H] [HK]
  · isplitl [HI]; · iexact HI
    isplitl [Hs]; · iexact Hs
    isplitl [Hd]; · iexact Hd
    iexact H
  · iexact HK

theorem setQM (s : Fin 2) : (mQ s).view.set = (vM s).set := View.set_reshape _ _

theorem ofSlotM (c : Dev nD) (s : Fin 2) (T : Pkt F) :
    (slotM c s T : sProp 𝕄) ⊢ iprop(∃ f : Buf (Elt F) ((mQ s).view.loc (c : Thread nD τ)), ⌜(vR s 0).read (Elt F) f = T.i ∧ (vR s 1).read (Elt F) f = T.p⌝ ∗ ((mQ s).view.loc (c : Thread nD τ) ↦[(mQ s).view.set]{fullShare} f)) := by
  rw [setQM]; exact Entails.refl _
theorem toSlotM (c : Dev nD) (s : Fin 2) (T : Pkt F) (f : Buf (Elt F) ((mQ s).view.loc (c : Thread nD τ))) (h : (vR s 0).read (Elt F) f = T.i ∧ (vR s 1).read (Elt F) f = T.p) :
    (((mQ s).view.loc (c : Thread nD τ) ↦[(mQ s).view.set]{fullShare} f) : sProp 𝕄) ⊢ slotM c s T := by
  rw [setQM]; unfold slotM
  iintro H; iexists f; isplitr
  · ipureintro; exact h
  · iexact H
theorem ofAnyM (c : Dev nD) (s : Fin 2) :
    (anyM c s : sProp 𝕄) ⊢ iprop(∃ f : Buf (Elt F) ((mQ s).view.loc (c : Thread nD τ)), (mQ s).view.loc (c : Thread nD τ) ↦[(mQ s).view.set]{fullShare} f) := by
  rw [setQM]; exact Entails.refl _
theorem sentM (c : Dev nD) (s t : Fin 2) (T : Pkt F) (fs fd : (cc0_scratch1 : Ref sig .tc).ty.Contents (Elt F)) (h : (vR s 0).read (Elt F) fs = T.i ∧ (vR s 1).read (Elt F) fs = T.p) :
    (((mQ t).view.loc (c : Thread nD τ) ↦[(mQ t).view.set]{fullShare} (mQ t).view.write (Elt F) fd ((mQ s).view.read (Elt F) fs) Finset.univ) : sProp 𝕄) ⊢ slotM c t T :=
  toSlotM c t T _ (⟨(copyR s t 0 fs fd).trans h.1, (copyR s t 1 fs fd).trans h.2⟩)

/-- The copy of buffer 1 in hop `h`. -/
theorem sendM (c : Dev nD) (h : ℕ) (hh : h < 31) {src dst : Memref sig .tc .vmem S2x1024 .f32} {n : Dev nD} {sS sem : SemLoc sig}
    (hsr : src = mQ (sl h)) (hds : dst = mQ (sl (h + 1))) (hn : n = nxt c) (hsS : sS = csem (.snd 1 (sl h))) (hsem : sem = csem (.rcv 1 (sl (h + 1))))
    {hsc : dst.view.ref.isScScratch = false} {hw : src.view.WordExact} {hw' : dst.view.WordExact}
    {ht : DmaTarget.Typed (p := .tc) .vmem sem (.remote (n : Thread nD τ) dst sS hsc)} {O : CellTallies nD τ sig ℕ}
    {β : Type} {kont : PUnit → Prog (TpuEff nD τ sig (Elt F) Λ₀ .tc) β} {Q : β → sProp 𝕄} :
    iprop(invs m ρ ∗ slotM c (sl h) (pk' m ρ h c) ∗ anyM (nxt c) (sl (h + 1)) ∗ owed c (O + dueR 1 c h) ∗ sendTok 1 c h
        ∗ reached ER (cell c (.snd 1 (sl h))) (h / 2) ∗ reached ER (cell (nxt c) (.rcv 1 (sl (h + 1)))) (h / 2) ∗ rcvExtra 1 (nxt c) h)
      ⊢ iprop((cred (tallyAt (cell c (.snd 1 (sl h))) 0 (NN 1)) -∗ owed c O -∗ wp frame (wpE (defs₀ (F := F)) 𝒱₀ (c : Thread nD τ) none) Set.univ (kont ⟨⟩) Q)
        -∗ wp frame (wpE (defs₀ (F := F)) 𝒱₀ (c : Thread nD τ) none) Set.univ
            (.op (.enqueueDma src (.remote (n : Thread nD τ) dst sS hsc) sem hw hw' ht) kont) Q) := by
  subst hn
  have hN : dst.view.amount sem = NN 1 := by subst hds; subst hsem; rfl
  iintro ⟨HI, Hs, Hd, H⟩ HK
  ihave Hs := (ofSlotM c (sl h) _) $$ Hs
  icases Hs with ⟨%fs, %hfs, Hs⟩
  ihave Hd := (ofAnyM (nxt c) (sl (h + 1))) $$ Hd
  icases Hd with ⟨%fd, Hd⟩
  have h1 : (((mQ (sl h)).view.loc (c : Thread nD τ) ↦[(mQ (sl h)).view.set]{fullShare} fs) : sProp 𝕄) ⊢ slotP 1 c (sl h) (pk' m ρ h c) :=
    toSlotM c (sl h) _ fs hfs
  have h2 := sentM (nxt c) (sl h) (sl (h + 1)) (pk' m ρ h c) fs fd hfs
  rw [← pk'_nxt] at h2
  subst hsr; subst hds
  iapply (send_gen m ρ 1 c h hh hsS hsem hN (fs := fs) (fd := fd) h1 h2) $$ [HI Hs Hd H] [HK]
  · isplitl [HI]; · iexact HI
    isplitl [Hs]; · iexact Hs
    isplitl [Hd]; · iexact Hd
    iexact H
  · iexact HK

theorem setQA (s : Fin 2) : (aQ s).view.set = (vA s).set := View.set_reshape _ _

theorem ofSlotA (c : Dev nD) (s : Fin 2) (T : Pkt F) :
    (slotA c s T : sProp 𝕄) ⊢ iprop(∃ f : Buf (Elt F) ((aQ s).view.loc (c : Thread nD τ)), ⌜(vA s).read (Elt F) f = T.a⌝ ∗ ((aQ s).view.loc (c : Thread nD τ) ↦[(aQ s).view.set]{fullShare} f)) := by
  rw [setQA]; exact Entails.refl _
theorem toSlotA (c : Dev nD) (s : Fin 2) (T : Pkt F) (f : Buf (Elt F) ((aQ s).view.loc (c : Thread nD τ))) (h : (vA s).read (Elt F) f = T.a) :
    (((aQ s).view.loc (c : Thread nD τ) ↦[(aQ s).view.set]{fullShare} f) : sProp 𝕄) ⊢ slotA c s T := by
  rw [setQA]; unfold slotA
  iintro H; iexists f; isplitr
  · ipureintro; exact h
  · iexact H
theorem ofAnyA (c : Dev nD) (s : Fin 2) :
    (anyA c s : sProp 𝕄) ⊢ iprop(∃ f : Buf (Elt F) ((aQ s).view.loc (c : Thread nD τ)), (aQ s).view.loc (c : Thread nD τ) ↦[(aQ s).view.set]{fullShare} f) := by
  rw [setQA]; exact Entails.refl _
theorem sentA (c : Dev nD) (s t : Fin 2) (T : Pkt F) (fs fd : (cc0_scratch2 : Ref sig .tc).ty.Contents (Elt F)) (h : (vA s).read (Elt F) fs = T.a) :
    (((aQ t).view.loc (c : Thread nD τ) ↦[(aQ t).view.set]{fullShare} (aQ t).view.write (Elt F) fd ((aQ s).view.read (Elt F) fs) Finset.univ) : sProp 𝕄) ⊢ slotA c t T :=
  toSlotA c t T _ ((copyA s t fs fd).trans h)

/-- The copy of buffer 2 in hop `h`. -/
theorem sendA (c : Dev nD) (h : ℕ) (hh : h < 31) {src dst : Memref sig .tc .vmem S1024x1024 .f32} {n : Dev nD} {sS sem : SemLoc sig}
    (hsr : src = aQ (sl h)) (hds : dst = aQ (sl (h + 1))) (hn : n = nxt c) (hsS : sS = csem (.snd 2 (sl h))) (hsem : sem = csem (.rcv 2 (sl (h + 1))))
    {hsc : dst.view.ref.isScScratch = false} {hw : src.view.WordExact} {hw' : dst.view.WordExact}
    {ht : DmaTarget.Typed (p := .tc) .vmem sem (.remote (n : Thread nD τ) dst sS hsc)} {O : CellTallies nD τ sig ℕ}
    {β : Type} {kont : PUnit → Prog (TpuEff nD τ sig (Elt F) Λ₀ .tc) β} {Q : β → sProp 𝕄} :
    iprop(invs m ρ ∗ slotA c (sl h) (pk' m ρ h c) ∗ anyA (nxt c) (sl (h + 1)) ∗ owed c (O + dueR 2 c h) ∗ sendTok 2 c h
        ∗ reached ER (cell c (.snd 2 (sl h))) (h / 2) ∗ reached ER (cell (nxt c) (.rcv 2 (sl (h + 1)))) (h / 2) ∗ rcvExtra 2 (nxt c) h)
      ⊢ iprop((cred (tallyAt (cell c (.snd 2 (sl h))) 0 (NN 2)) -∗ owed c O -∗ wp frame (wpE (defs₀ (F := F)) 𝒱₀ (c : Thread nD τ) none) Set.univ (kont ⟨⟩) Q)
        -∗ wp frame (wpE (defs₀ (F := F)) 𝒱₀ (c : Thread nD τ) none) Set.univ
            (.op (.enqueueDma src (.remote (n : Thread nD τ) dst sS hsc) sem hw hw' ht) kont) Q) := by
  subst hn
  have hN : dst.view.amount sem = NN 2 := by subst hds; subst hsem; rfl
  iintro ⟨HI, Hs, Hd, H⟩ HK
  ihave Hs := (ofSlotA c (sl h) _) $$ Hs
  icases Hs with ⟨%fs, %hfs, Hs⟩
  ihave Hd := (ofAnyA (nxt c) (sl (h + 1))) $$ Hd
  icases Hd with ⟨%fd, Hd⟩
  have h1 : (((aQ (sl h)).view.loc (c : Thread nD τ) ↦[(aQ (sl h)).view.set]{fullShare} fs) : sProp 𝕄) ⊢ slotP 2 c (sl h) (pk' m ρ h c) :=
    toSlotA c (sl h) _ fs hfs
  have h2 := sentA (nxt c) (sl h) (sl (h + 1)) (pk' m ρ h c) fs fd hfs
  rw [← pk'_nxt] at h2
  subst hsr; subst hds
  iapply (send_gen m ρ 2 c h hh hsS hsem hN (fs := fs) (fd := fd) h1 h2) $$ [HI Hs Hd H] [HK]
  · isplitl [HI]; · iexact HI
    isplitl [Hs]; · iexact Hs
    isplitl [Hd]; · iexact Hd
    iexact H
  · iexact HK

/-! ## Signals -/

/-- A signal of one unit. -/
theorem signal_one (c n : Dev nD) (k : CK) (r i : ℕ) (d : Bool) (hd : d ∈ dutiesK k r) (ha : amountK k = 1)
    {n' : Dev nD} (hn : n' = n) {sem : Sem sig} (hs : (SemLoc.reg sem) = csem k) {k' : ℤ} (hk : k' = ((1 : ℕ) : ℤ)) {O : CellTallies nD τ sig ℕ}
    {β : Type} {kont : PUnit → Prog (TpuEff nD τ sig (Elt F) Λ₀ .tc) β} {Q : β → sProp 𝕄} (hr : τ.routes (c : Thread nD τ) (n : Thread nD τ) = true) :
    iprop(invs m ρ ∗ owed c (O + tallyAt (cell n k) i 1) ∗ dutyTok ER (cell n k) r d ∗ payK m ρ n k r d ∗ reached ER (cell n k) r)
      ⊢ iprop((owed c O -∗ wp frame (wpE (defs₀ (F := F)) 𝒱₀ (c : Thread nD τ) none) Set.univ (kont ⟨⟩) Q)
        -∗ wp frame (wpE (defs₀ (F := F)) 𝒱₀ (c : Thread nD τ) none) Set.univ (.op (.semSignal (n' : Thread nD τ) sem k') kont) Q) := by
  subst hn; subst hk
  rw [← payload_cell m ρ n' k r d]
  have hd' : d ∈ (rd m ρ).duties (cell n' k) r := by rw [duties_cell]; exact hd
  have hk' : (rd m ρ).amount (cell n' k) r d = 1 := by rw [amount_cell, ha]
  have hI := inv_at m ρ n' k
  unfold cell at hd' hk' hI ⊢
  rw [← hs] at hd' hk' hI ⊢
  unfold owed
  iintro ⟨#HI, ⟨%W, HO⟩, Ht, Hp, Hr⟩ HK
  ihave Hiv := hI $$ HI
  icases Hiv with ⟨%κ, #Hκ⟩
  iapply (Rounds.wp_signal 𝒱₀ ER (rd m ρ) (c : Thread nD τ) none (dst := (n' : Thread nD τ)) (κ := κ) (d := d) hd' hk' i O rfl (hr := hr)) $$ [HO Ht Hp Hr]
  · isplitr; · iexact Hκ
    isplitl [HO]; · iexact HO
    isplitl [Ht]; · iexact Ht
    isplitl [Hp]; · iexact Hp
    iexact Hr
  iintro HO
  iapply HK
  iexists _; iexact HO

end Cert.Proof.Ring

end
-- ==== Proof.Loads.lean ====
/-
  The loads and stores of a device on its slots: a load reads the packet's part, a store puts it there.
-/
module

public import proofs.«01_k».proof.Proof.Steps

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slots of the first buffer -/

/-- A load of the slot reads the packet's part; -/
theorem loadX (c : Dev nD) (s : Fin 2) (T : Pkt F) {off : Fin 3 → ℕ} {inb : ∀ a, off a + S1x1024x512.size a ≤ S2x1024x512.size a}
    (hoff : off = ![s.val, 0, 0]) {hl : (xM : Memref sig .tc .vmem S2x1024x512 .f32).view.LoadsAt (Rect.unit (s := S2x1024x512) off S1x1024x512.size inb).toLoadRect}
    {β : Type} {kont : Vec F S1x1024x512 .f32 → Prog (TpuEff nD τ sig (Elt F) Λ₀ .tc) β} {Q : β → sProp 𝕄} :
    (slotX c s T : sProp 𝕄) ⊢ iprop((slotX c s T -∗ wp frame (wpE (defs₀ (F := F)) 𝒱₀ (c : Thread nD τ) none) Set.univ (kont T.x) Q)
      -∗ wp frame (wpE (defs₀ (F := F)) 𝒱₀ (c : Thread nD τ) none) Set.univ (.op (.load xM (Rect.unit (s := S2x1024x512) off S1x1024x512.size inb).toLoadRect hl) kont) Q) := by
  subst hoff
  unfold slotX
  iintro ⟨%f, %hf, H⟩ HK
  iapply (wp_load_rect 𝒱₀ (c : Thread nD τ) none Set.univ (m := xM) (r := rX s) (S := (vX s).set) (q := fullShare) (f := f) (Finset.Subset.refl _)) $$ H
  iintro H
  rw [show (xM.access (rX s)).read (Elt F) f = T.x from hf]
  iapply HK
  iexists f; isplitr
  · ipureintro; exact hf
  · iexact H

/-- of a slot at any contents, something. -/
theorem deadX (c : Dev nD) (s : Fin 2) {off : Fin 3 → ℕ} {inb : ∀ a, off a + S1x1024x512.size a ≤ S2x1024x512.size a}
    (hoff : off = ![s.val, 0, 0]) {hl : (xM : Memref sig .tc .vmem S2x1024x512 .f32).view.LoadsAt (Rect.unit (s := S2x1024x512) off S1x1024x512.size inb).toLoadRect}
    {β : Type} {kont : Vec F S1x1024x512 .f32 → Prog (TpuEff nD τ sig (Elt F) Λ₀ .tc) β} {Q : β → sProp 𝕄} :
    (anyX c s : sProp 𝕄) ⊢ iprop((∀ v, anyX c s -∗ wp frame (wpE (defs₀ (F := F)) 𝒱₀ (c : Thread nD τ) none) Set.univ (kont v) Q)
      -∗ wp frame (wpE (defs₀ (F := F)) 𝒱₀ (c : Thread nD τ) none) Set.univ (.op (.load xM (Rect.unit (s := S2x1024x512) off S1x1024x512.size inb).toLoadRect hl) kont) Q) := by
  subst hoff
  unfold anyX
  iintro ⟨%f, H⟩ HK
  iapply (wp_load_rect 𝒱₀ (c : Thread nD τ) none Set.univ (m := xM) (r := rX s) (S := (vX s).set) (q := fullShare) (f := f) (Finset.Subset.refl _)) $$ H
  iintro H
  iapply HK
  iexists f; iexact H

/-- A store of the slot leaves what was stored. -/
theorem storeX (c : Dev nD) (s : Fin 2) (T : Pkt F) {off : Fin 3 → ℕ} {inb : ∀ a, off a + S1x1024x512.size a ≤ S2x1024x512.size a}
    (hoff : off = ![s.val, 0, 0]) {w : Vec F S1x1024x512 .f32} (hw : w = T.x)
    {hx : ((xM : Memref sig .tc .vmem S2x1024x512 .f32).access (Rect.unit (s := S2x1024x512) off S1x1024x512.size inb)).Stores Finset.univ}
    {hm : (Finset.univ : Finset (Rect.unit (s := S2x1024x512) off S1x1024x512.size inb).shape.Idx) = Finset.univ ∨ ∀ a, (Rect.unit (s := S2x1024x512) off S1x1024x512.size inb).stride a = 1}
    {β : Type} {kont : PUnit → Prog (TpuEff nD τ sig (Elt F) Λ₀ .tc) β} {Q : β → sProp 𝕄} :
    (anyX c s : sProp 𝕄) ⊢ iprop((slotX c s T -∗ wp frame (wpE (defs₀ (F := F)) 𝒱₀ (c : Thread nD τ) none) Set.univ (kont ⟨⟩) Q)
      -∗ wp frame (wpE (defs₀ (F := F)) 𝒱₀ (c : Thread nD τ) none) Set.univ (.op (.store xM (Rect.unit (s := S2x1024x512) off S1x1024x512.size inb) w Finset.univ hx hm) kont) Q) := by
  subst hoff; subst hw
  unfold anyX slotX
  iintro ⟨%f, H⟩ HK
  iapply (wp_store 𝒱₀ (c : Thread nD τ) none Set.univ (m := xM) (r := rX s) (Mk := Finset.univ) (S := (vX s).set) (f := f) (Finset.Subset.refl _)) $$ H
  iintro H
  iapply HK
  iexists (xM.access (rX s)).write (Elt F) f T.x Finset.univ; isplitr
  · ipureintro; exact View.read_write_univ _ _
  · iexact H

/-! ## Slots of the third buffer -/

/-- A load of the slot reads the packet's part; -/
theorem loadA (c : Dev nD) (s : Fin 2) (T : Pkt F) {off : Fin 3 → ℕ} {inb : ∀ a, off a + S1x1024x1024.size a ≤ S2x1024x1024.size a}
    (hoff : off = ![s.val, 0, 0]) {hl : (aM : Memref sig .tc .vmem S2x1024x1024 .f32).view.LoadsAt (Rect.unit (s := S2x1024x1024) off S1x1024x1024.size inb).toLoadRect}
    {β : Type} {kont : Vec F S1x1024x1024 .f32 → Prog (TpuEff nD τ sig (Elt F) Λ₀ .tc) β} {Q : β → sProp 𝕄} :
    (slotA c s T : sProp 𝕄) ⊢ iprop((slotA c s T -∗ wp frame (wpE (defs₀ (F := F)) 𝒱₀ (c : Thread nD τ) none) Set.univ (kont T.a) Q)
      -∗ wp frame (wpE (defs₀ (F := F)) 𝒱₀ (c : Thread nD τ) none) Set.univ (.op (.load aM (Rect.unit (s := S2x1024x1024) off S1x1024x1024.size inb).toLoadRect hl) kont) Q) := by
  subst hoff
  unfold slotA
  iintro ⟨%f, %hf, H⟩ HK
  iapply (wp_load_rect 𝒱₀ (c : Thread nD τ) none Set.univ (m := aM) (r := rA s) (S := (vA s).set) (q := fullShare) (f := f) (Finset.Subset.refl _)) $$ H
  iintro H
  rw [show (aM.access (rA s)).read (Elt F) f = T.a from hf]
  iapply HK
  iexists f; isplitr
  · ipureintro; exact hf
  · iexact H

/-- of a slot at any contents, something. -/
theorem deadA (c : Dev nD) (s : Fin 2) {off : Fin 3 → ℕ} {inb : ∀ a, off a + S1x1024x1024.size a ≤ S2x1024x1024.size a}
    (hoff : off = ![s.val, 0, 0]) {hl : (aM : Memref sig .tc .vmem S2x1024x1024 .f32).view.LoadsAt (Rect.unit (s := S2x1024x1024) off S1x1024x1024.size inb).toLoadRect}
    {β : Type} {kont : Vec F S1x1024x1024 .f32 → Prog (TpuEff nD τ sig (Elt F) Λ₀ .tc) β} {Q : β → sProp 𝕄} :
    (anyA c s : sProp 𝕄) ⊢ iprop((∀ v, anyA c s -∗ wp frame (wpE (defs₀ (F := F)) 𝒱₀ (c : Thread nD τ) none) Set.univ (kont v) Q)
      -∗ wp frame (wpE (defs₀ (F := F)) 𝒱₀ (c : Thread nD τ) none) Set.univ (.op (.load aM (Rect.unit (s := S2x1024x1024) off S1x1024x1024.size inb).toLoadRect hl) kont) Q) := by
  subst hoff
  unfold anyA
  iintro ⟨%f, H⟩ HK
  iapply (wp_load_rect 𝒱₀ (c : Thread nD τ) none Set.univ (m := aM) (r := rA s) (S := (vA s).set) (q := fullShare) (f := f) (Finset.Subset.refl _)) $$ H
  iintro H
  iapply HK
  iexists f; iexact H

/-- A store of the slot leaves what was stored. -/
theorem storeA (c : Dev nD) (s : Fin 2) (T : Pkt F) {off : Fin 3 → ℕ} {inb : ∀ a, off a + S1x1024x1024.size a ≤ S2x1024x1024.size a}
    (hoff : off = ![s.val, 0, 0]) {w : Vec F S1x1024x1024 .f32} (hw : w = T.a)
    {hx : ((aM : Memref sig .tc .vmem S2x1024x1024 .f32).access (Rect.unit (s := S2x1024x1024) off S1x1024x1024.size inb)).Stores Finset.univ}
    {hm : (Finset.univ : Finset (Rect.unit (s := S2x1024x1024) off S1x1024x1024.size inb).shape.Idx) = Finset.univ ∨ ∀ a, (Rect.unit (s := S2x1024x1024) off S1x1024x1024.size inb).stride a = 1}
    {β : Type} {kont : PUnit → Prog (TpuEff nD τ sig (Elt F) Λ₀ .tc) β} {Q : β → sProp 𝕄} :
    (anyA c s : sProp 𝕄) ⊢ iprop((slotA c s T -∗ wp frame (wpE (defs₀ (F := F)) 𝒱₀ (c : Thread nD τ) none) Set.univ (kont ⟨⟩) Q)
      -∗ wp frame (wpE (defs₀ (F := F)) 𝒱₀ (c : Thread nD τ) none) Set.univ (.op (.store aM (Rect.unit (s := S2x1024x1024) off S1x1024x1024.size inb) w Finset.univ hx hm) kont) Q) := by
  subst hoff; subst hw
  unfold anyA slotA
  iintro ⟨%f, H⟩ HK
  iapply (wp_store 𝒱₀ (c : Thread nD τ) none Set.univ (m := aM) (r := rA s) (Mk := Finset.univ) (S := (vA s).set) (f := f) (Finset.Subset.refl _)) $$ H
  iintro H
  iapply HK
  iexists (aM.access (rA s)).write (Elt F) f T.a Finset.univ; isplitr
  · ipureintro; exact View.read_write_univ _ _
  · iexact H

/-! ## Rows of the second buffer's slots -/

theorem loadR0 (c : Dev nD) (s : Fin 2) (T : Pkt F) {off : Fin 3 → ℕ} {inb : ∀ a, off a + S1x1x1024.size a ≤ S2x2x1024.size a}
    (hoff : off = ![s.val, 0, 0]) {hl : (mM : Memref sig .tc .vmem S2x2x1024 .f32).view.LoadsAt (Rect.unit (s := S2x2x1024) off S1x1x1024.size inb).toLoadRect}
    {β : Type} {kont : Vec F S1x1x1024 .f32 → Prog (TpuEff nD τ sig (Elt F) Λ₀ .tc) β} {Q : β → sProp 𝕄} :
    (slotM c s T : sProp 𝕄) ⊢ iprop((slotM c s T -∗ wp frame (wpE (defs₀ (F := F)) 𝒱₀ (c : Thread nD τ) none) Set.univ (kont T.i) Q)
      -∗ wp frame (wpE (defs₀ (F := F)) 𝒱₀ (c : Thread nD τ) none) Set.univ (.op (.load mM (Rect.unit (s := S2x2x1024) off S1x1x1024.size inb).toLoadRect hl) kont) Q) := by
  subst hoff
  unfold slotM
  iintro ⟨%f, %hf, H⟩ HK
  iapply (wp_load_rect 𝒱₀ (c : Thread nD τ) none Set.univ (m := mM) (r := rR s 0) (S := (vM s).set) (q := fullShare) (f := f) (setR_sub s 0)) $$ H
  iintro H
  rw [show (mM.access (rR s 0)).read (Elt F) f = T.i from hf.1]
  iapply HK
  iexists f; isplitr
  · ipureintro; exact hf
  · iexact H

theorem loadR1 (c : Dev nD) (s : Fin 2) (T : Pkt F) {off : Fin 3 → ℕ} {inb : ∀ a, off a + S1x1x1024.size a ≤ S2x2x1024.size a}
    (hoff : off = ![s.val, 1, 0]) {hl : (mM : Memref sig .tc .vmem S2x2x1024 .f32).view.LoadsAt (Rect.unit (s := S2x2x1024) off S1x1x1024.size inb).toLoadRect}
    {β : Type} {kont : Vec F S1x1x1024 .f32 → Prog (TpuEff nD τ sig (Elt F) Λ₀ .tc) β} {Q : β → sProp 𝕄} :
    (slotM c s T : sProp 𝕄) ⊢ iprop((slotM c s T -∗ wp frame (wpE (defs₀ (F := F)) 𝒱₀ (c : Thread nD τ) none) Set.univ (kont T.p) Q)
      -∗ wp frame (wpE (defs₀ (F := F)) 𝒱₀ (c : Thread nD τ) none) Set.univ (.op (.load mM (Rect.unit (s := S2x2x1024) off S1x1x1024.size inb).toLoadRect hl) kont) Q) := by
  subst hoff
  unfold slotM
  iintro ⟨%f, %hf, H⟩ HK
  iapply (wp_load_rect 𝒱₀ (c : Thread nD τ) none Set.univ (m := mM) (r := rR s 1) (S := (vM s).set) (q := fullShare) (f := f) (setR_sub s 1)) $$ H
  iintro H
  rw [show (mM.access (rR s 1)).read (Elt F) f = T.p from hf.2]
  iapply HK
  iexists f; isplitr
  · ipureintro; exact hf
  · iexact H

/-- The slot's two rows stored one after the other, each after a load whose value is not used. -/
theorem storeRows (c : Dev nD) (s : Fin 2) (T : Pkt F) {off₀ off₀' off₁ off₁' : Fin 3 → ℕ}
    {inb₀ : ∀ a, off₀ a + S1x1x1024.size a ≤ S2x2x1024.size a} {inb₀' : ∀ a, off₀' a + S1x1x1024.size a ≤ S2x2x1024.size a}
    {inb₁ : ∀ a, off₁ a + S1x1x1024.size a ≤ S2x2x1024.size a} {inb₁' : ∀ a, off₁' a + S1x1x1024.size a ≤ S2x2x1024.size a}
    (hoff₀ : off₀ = ![s.val, 0, 0]) (hoff₀' : off₀' = ![s.val, 0, 0]) (hoff₁ : off₁ = ![s.val, 1, 0]) (hoff₁' : off₁' = ![s.val, 1, 0])
    {w₀ w₁ : Vec F S1x1x1024 .f32} (hw₀ : w₀ = T.i) (hw₁ : w₁ = T.p)
    {hl₀ : (mM : Memref sig .tc .vmem S2x2x1024 .f32).view.LoadsAt (Rect.unit (s := S2x2x1024) off₀ S1x1x1024.size inb₀).toLoadRect}
    {hl₁ : (mM : Memref sig .tc .vmem S2x2x1024 .f32).view.LoadsAt (Rect.unit (s := S2x2x1024) off₁ S1x1x1024.size inb₁).toLoadRect}
    {hx₀ : ((mM : Memref sig .tc .vmem S2x2x1024 .f32).access (Rect.unit (s := S2x2x1024) off₀' S1x1x1024.size inb₀')).Stores Finset.univ}
    {hm₀ : (Finset.univ : Finset (Rect.unit (s := S2x2x1024) off₀' S1x1x1024.size inb₀').shape.Idx) = Finset.univ ∨ ∀ a, (Rect.unit (s := S2x2x1024) off₀' S1x1x1024.size inb₀').stride a = 1}
    {hx₁ : ((mM : Memref sig .tc .vmem S2x2x1024 .f32).access (Rect.unit (s := S2x2x1024) off₁' S1x1x1024.size inb₁')).Stores Finset.univ}
    {hm₁ : (Finset.univ : Finset (Rect.unit (s := S2x2x1024) off₁' S1x1x1024.size inb₁').shape.Idx) = Finset.univ ∨ ∀ a, (Rect.unit (s := S2x2x1024) off₁' S1x1x1024.size inb₁').stride a = 1}
    {β : Type} {kont : PUnit → Prog (TpuEff nD τ sig (Elt F) Λ₀ .tc) β} {Q : β → sProp 𝕄} :
    (anyM c s : sProp 𝕄) ⊢ iprop((slotM c s T -∗ wp frame (wpE (defs₀ (F := F)) 𝒱₀ (c : Thread nD τ) none) Set.univ (kont ⟨⟩) Q)
      -∗ wp frame (wpE (defs₀ (F := F)) 𝒱₀ (c : Thread nD τ) none) Set.univ
          (.op (.load mM (Rect.unit (s := S2x2x1024) off₀ S1x1x1024.size inb₀).toLoadRect hl₀) fun _ =>
            .op (.store mM (Rect.unit (s := S2x2x1024) off₀' S1x1x1024.size inb₀') w₀ Finset.univ hx₀ hm₀) fun _ =>
            .op (.load mM (Rect.unit (s := S2x2x1024) off₁ S1x1x1024.size inb₁).toLoadRect hl₁) fun _ =>
            .op (.store mM (Rect.unit (s := S2x2x1024) off₁' S1x1x1024.size inb₁') w₁ Finset.univ hx₁ hm₁) kont) Q) := by
  subst hoff₀; subst hoff₀'; subst hoff₁; subst hoff₁'; subst hw₀; subst hw₁
  unfold anyM slotM
  iintro ⟨%f, H⟩ HK
  iapply (wp_load_rect 𝒱₀ (c : Thread nD τ) none Set.univ (m := mM) (r := rR s 0) (S := (vM s).set) (q := fullShare) (f := f) (setR_sub s 0)) $$ H
  iintro H
  iapply (wp_store 𝒱₀ (c : Thread nD τ) none Set.univ (m := mM) (r := rR s 0) (Mk := Finset.univ) (S := (vM s).set) (f := f) (setR_sub s 0)) $$ H
  iintro H
  iapply (wp_load_rect 𝒱₀ (c : Thread nD τ) none Set.univ (m := mM) (r := rR s 1) (S := (vM s).set) (q := fullShare) (setR_sub s 1)) $$ H
  iintro H
  iapply (wp_store 𝒱₀ (c : Thread nD τ) none Set.univ (m := mM) (r := rR s 1) (Mk := Finset.univ) (S := (vM s).set) (setR_sub s 1)) $$ H
  iintro H
  iapply HK
  iexists (vR s 1).write (Elt F) ((vR s 0).write (Elt F) f T.i Finset.univ) T.p Finset.univ; isplitr
  · ipureintro; exact rows_stored s f T.i T.p
  · iexact H

/-! ## The experts -/

/-- Device `c`'s experts' weights as staged. -/
def expP (m : (ℓ : Loc nD τ sig) → Buf (Elt F) ℓ) (ρ : Dev nD → PrngReg) (c : Dev nD) : sProp 𝕄 := eM.view.loc (c : Thread nD τ) ↦[Finset.univ]{fullShare} (in3 m ρ c)

theorem loadE (m : (ℓ : Loc nD τ sig) → Buf (Elt F) ℓ) (ρ : Dev nD → PrngReg) (c : Dev nD) (j : Fin 4) {off : Fin 3 → ℕ} {inb : ∀ a, off a + S1x512x1024.size a ≤ S4x512x1024.size a}
    (hoff : off = ![j.val, 0, 0]) {hl : (eM : Memref sig .tc .vmem S4x512x1024 .f32).view.LoadsAt (Rect.unit (s := S4x512x1024) off S1x512x1024.size inb).toLoadRect}
    {β : Type} {kont : Vec F S1x512x1024 .f32 → Prog (TpuEff nD τ sig (Elt F) Λ₀ .tc) β} {Q : β → sProp 𝕄} :
    (expP m ρ c : sProp 𝕄) ⊢ iprop((expP m ρ c -∗ wp frame (wpE (defs₀ (F := F)) 𝒱₀ (c : Thread nD τ) none) Set.univ (kont (expW m ρ c j)) Q)
      -∗ wp frame (wpE (defs₀ (F := F)) 𝒱₀ (c : Thread nD τ) none) Set.univ (.op (.load eM (Rect.unit (s := S4x512x1024) off S1x512x1024.size inb).toLoadRect hl) kont) Q) := by
  subst hoff
  unfold expP
  iintro H HK
  iapply (wp_load 𝒱₀ (c : Thread nD τ) none Set.univ (m := eM) (r := (rE j).toLoadRect) (S := Finset.univ) (q := fullShare) (f := in3 m ρ c) (Finset.subset_univ _)) $$ H
  iintro H
  iapply HK; iexact H

end Cert.Proof.Ring

end
-- ==== Proof.Hop.lean ====
/-
  What a hop does once the device has added its share: three copies, the six waits for them, the credit to the device
  that feeds this one.
-/
module

public import proofs.«01_k».proof.Proof.Loads

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-- A packet in slot `s` of device `c`. -/
def pack (c : Dev nD) (s : Fin 2) (T : Pkt F) : sProp 𝕄 := iprop(slotX c s T ∗ slotM c s T ∗ slotA c s T)

/-- Where device `c` stands on its send and receive cells before hop `h`. -/
def pos (c : Dev nD) (h : ℕ) : sProp 𝕄 :=
  iprop((sndPos 0 c h ∗ sndPos 1 c h ∗ sndPos 2 c h) ∗ (rcvPos 0 c h ∗ rcvPos 1 c h ∗ rcvPos 2 c h))

/-- The duties device `c` pays in hop `h`, -/
def hopTok (c : Dev nD) (h : ℕ) : sProp 𝕄 := iprop((sendTok 0 c h ∗ sendTok 1 c h ∗ sendTok 2 c h) ∗ dutyTok ER (cell (prv c) .cred) h false)
/-- the credits it spends waiting for what that hop sends it, -/
def hopRcv (c : Dev nD) (h : ℕ) : sProp 𝕄 :=
  iprop(cred (tallyAt (cell c (.rcv 0 (sl (h + 1)))) h (NN 0)) ∗ cred (tallyAt (cell c (.rcv 1 (sl (h + 1)))) h (NN 1)) ∗ cred (tallyAt (cell c (.rcv 2 (sl (h + 1)))) h (NN 2)))
/-- and for the credit of that hop. -/
def hopCred (c : Dev nD) (h : ℕ) : sProp 𝕄 := cred (tallyAt (cell c .cred) h 1)

/-- The duties and credits of all hops from `h` on. -/
def rest (c : Dev nD) (h : ℕ) : sProp 𝕄 := bigSep (Finset.Ico h 31) fun j => iprop(hopTok c j ∗ hopRcv c j ∗ hopCred c j)

theorem rest_step (c : Dev nD) (h : ℕ) (hh : h < 31) : (rest c h : sProp 𝕄) ⊢ iprop((hopTok c h ∗ hopRcv c h ∗ hopCred c h) ∗ rest c (h + 1)) := by
  have hi : (Finset.Ico h 31).erase h = Finset.Ico (h + 1) 31 := by ext j; simp only [Finset.mem_erase, Finset.mem_Ico]; omega
  unfold rest
  rw [bigSep_erase (i := h) (Finset.mem_Ico.2 ⟨le_refl _, hh⟩), hi]
  exact Entails.refl _

/-- After the last hop the slot it sent stays with the device; any earlier hop's goes to the device that feeds it. -/
def back (c : Dev nD) (h : ℕ) : sProp 𝕄 := if h < 31 then iprop(emp) else slots c (sl (h + 1))

theorem sndPos_reached (b : Fin 3) (c : Dev nD) (h : ℕ) : (sndPos b c h : sProp 𝕄) ⊢ iprop(sndPos b c h ∗ reached ER (cell c (.snd b (sl h))) (h / 2)) := by
  unfold sndPos at'
  iintro ⟨⟨H1, #H2⟩, H3, H4⟩
  isplitl [H1 H3 H4]
  · isplitl [H1]
    · isplitl [H1]
      · iexact H1
      · iexact H2
    · isplitl [H3] <;> iassumption
  · iexact H2
theorem rcvPos_reached (b : Fin 3) (c : Dev nD) (h : ℕ) : (rcvPos b c h : sProp 𝕄) ⊢ iprop(rcvPos b c h ∗ reached ER (cell c (.rcv b (sl h))) ((h + 1) / 2)) := by
  unfold rcvPos at'
  iintro ⟨⟨H1, H2⟩, H3, #H4⟩
  isplitl [H1 H2 H3]
  · isplitl [H1 H2]
    · isplitl [H1] <;> iassumption
    · isplitl [H3]
      · iexact H3
      · iexact H4
  · iexact H4

/-- The sent slot: paid to the device that feeds this one, or kept after the last hop. -/
theorem backs (c : Dev nD) (h : ℕ) :
    iprop(slotX c (sl h) (pk' m ρ h c) ∗ slotM c (sl h) (pk' m ρ h c) ∗ slotA c (sl h) (pk' m ρ h c)
        ∗ reached ER (cell c (.rcv 0 (sl h))) ((h + 1) / 2) ∗ reached ER (cell c (.rcv 1 (sl h))) ((h + 1) / 2) ∗ reached ER (cell c (.rcv 2 (sl h))) ((h + 1) / 2))
      ⊢ (iprop(payK m ρ (prv c) .cred h false ∗ back c (h + 1)) : sProp 𝕄) := by
  rw [show payK m ρ (prv c) .cred h false = (if h < 30 then grant (prv c) (h + 1) else iprop(emp) : sProp 𝕄) from rfl]
  unfold back grant
  rw [nxt_prv, sl_step]
  unfold slots
  iintro ⟨H0, H1, H2, H3, H4, H5⟩
  ihave H0 := (slotX_any c (sl h) _) $$ H0
  ihave H1 := (slotM_any c (sl h) _) $$ H1
  ihave H2 := (slotA_any c (sl h) _) $$ H2
  by_cases hh : h < 30
  · rw [if_pos hh, if_pos (by omega)]
    isplitl [H0 H1 H2 H3 H4 H5]
    · isplitl [H0 H1 H2]
      · isplitl [H0]; · iexact H0
        isplitl [H1] <;> iassumption
      · isplitl [H3]; · iexact H3
        isplitl [H4] <;> iassumption
    · iempintro
  · rw [if_neg hh, if_neg (by omega)]
    iclear H3 H4 H5
    isplitr; · iempintro
    isplitl [H0]; · iexact H0
    isplitl [H1] <;> iassumption

theorem slotP_zero (c : Dev nD) (s : Fin 2) (T : Pkt F) : (slotP 0 c s T : sProp 𝕄) = slotX c s T := rfl
theorem slotP_one (c : Dev nD) (s : Fin 2) (T : Pkt F) : (slotP 1 c s T : sProp 𝕄) = slotM c s T := rfl
theorem slotP_two (c : Dev nD) (s : Fin 2) (T : Pkt F) : (slotP 2 c s T : sProp 𝕄) = slotA c s T := rfl
theorem rcvExtra_zero (c : Dev nD) (h : ℕ) : (rcvExtra 0 c h : sProp 𝕄) = iprop(emp) := if_neg (by decide)
theorem rcvExtra_one (c : Dev nD) (h : ℕ) : (rcvExtra 1 c h : sProp 𝕄) = iprop(emp) := if_neg (by decide)
theorem rcvExtra_two (c : Dev nD) (h : ℕ) : (rcvExtra 2 c h : sProp 𝕄) = reached ER (cell (prv c) .cred) h := if_pos rfl

/-- A hop's copies, waits and credit. -/
theorem hopTail (c : Dev nD) (h : ℕ) (hh : h < 31)
    {src0 dst0 : Memref sig .tc .vmem S1024x512 .f32} {n0 : Dev nD} {ss0 sr0 : SemLoc sig}
    (hsr0 : src0 = xQ (sl h)) (hds0 : dst0 = xQ (sl (h + 1))) (hn0 : n0 = nxt c) (hss0 : ss0 = csem (.snd 0 (sl h))) (hsv0 : sr0 = csem (.rcv 0 (sl (h + 1))))
    {hsc0 : dst0.view.ref.isScScratch = false} {hwa0 : src0.view.WordExact} {hwb0 : dst0.view.WordExact}
    {ht0 : DmaTarget.Typed (p := .tc) .vmem sr0 (.remote (n0 : Thread nD τ) dst0 ss0 hsc0)}
    {src1 dst1 : Memref sig .tc .vmem S2x1024 .f32} {n1 : Dev nD} {ss1 sr1 : SemLoc sig}
    (hsr1 : src1 = mQ (sl h)) (hds1 : dst1 = mQ (sl (h + 1))) (hn1 : n1 = nxt c) (hss1 : ss1 = csem (.snd 1 (sl h))) (hsv1 : sr1 = csem (.rcv 1 (sl (h + 1))))
    {hsc1 : dst1.view.ref.isScScratch = false} {hwa1 : src1.view.WordExact} {hwb1 : dst1.view.WordExact}
    {ht1 : DmaTarget.Typed (p := .tc) .vmem sr1 (.remote (n1 : Thread nD τ) dst1 ss1 hsc1)}
    {src2 dst2 : Memref sig .tc .vmem S1024x1024 .f32} {n2 : Dev nD} {ss2 sr2 : SemLoc sig}
    (hsr2 : src2 = aQ (sl h)) (hds2 : dst2 = aQ (sl (h + 1))) (hn2 : n2 = nxt c) (hss2 : ss2 = csem (.snd 2 (sl h))) (hsv2 : sr2 = csem (.rcv 2 (sl (h + 1))))
    {hsc2 : dst2.view.ref.isScScratch = false} {hwa2 : src2.view.WordExact} {hwb2 : dst2.view.WordExact}
    {ht2 : DmaTarget.Typed (p := .tc) .vmem sr2 (.remote (n2 : Thread nD τ) dst2 ss2 hsc2)}
    {u0 : TpuEff nD τ sig (Elt F) Λ₀ .tc PUnit} {um0 : SemLoc sig} {uk0 : ℕ}
    (hu0 : ∀ K : PUnit → sProp 𝕄, wpE (defs₀ (F := F)) 𝒱₀ (c : Thread nD τ) none Set.univ u0 K = waitSpec (c : Thread nD τ) Set.univ um0 uk0 K)
    (hum0 : um0 = csem (.snd 0 (sl h))) (huk0 : uk0 = NN 0)
    {v0 : TpuEff nD τ sig (Elt F) Λ₀ .tc PUnit} {vm0 : SemLoc sig} {vk0 : ℕ}
    (hv0 : ∀ K : PUnit → sProp 𝕄, wpE (defs₀ (F := F)) 𝒱₀ (c : Thread nD τ) none Set.univ v0 K = waitSpec (c : Thread nD τ) Set.univ vm0 vk0 K)
    (hvm0 : vm0 = csem (.rcv 0 (sl (h + 1)))) (hvk0 : vk0 = NN 0)
    {u1 : TpuEff nD τ sig (Elt F) Λ₀ .tc PUnit} {um1 : SemLoc sig} {uk1 : ℕ}
    (hu1 : ∀ K : PUnit → sProp 𝕄, wpE (defs₀ (F := F)) 𝒱₀ (c : Thread nD τ) none Set.univ u1 K = waitSpec (c : Thread nD τ) Set.univ um1 uk1 K)
    (hum1 : um1 = csem (.snd 1 (sl h))) (huk1 : uk1 = NN 1)
    {v1 : TpuEff nD τ sig (Elt F) Λ₀ .tc PUnit} {vm1 : SemLoc sig} {vk1 : ℕ}
    (hv1 : ∀ K : PUnit → sProp 𝕄, wpE (defs₀ (F := F)) 𝒱₀ (c : Thread nD τ) none Set.univ v1 K = waitSpec (c : Thread nD τ) Set.univ vm1 vk1 K)
    (hvm1 : vm1 = csem (.rcv 1 (sl (h + 1)))) (hvk1 : vk1 = NN 1)
    {u2 : TpuEff nD τ sig (Elt F) Λ₀ .tc PUnit} {um2 : SemLoc sig} {uk2 : ℕ}
    (hu2 : ∀ K : PUnit → sProp 𝕄, wpE (defs₀ (F := F)) 𝒱₀ (c : Thread nD τ) none Set.univ u2 K = waitSpec (c : Thread nD τ) Set.univ um2 uk2 K)
    (hum2 : um2 = csem (.snd 2 (sl h))) (huk2 : uk2 = NN 2)
    {v2 : TpuEff nD τ sig (Elt F) Λ₀ .tc PUnit} {vm2 : SemLoc sig} {vk2 : ℕ}
    (hv2 : ∀ K : PUnit → sProp 𝕄, wpE (defs₀ (F := F)) 𝒱₀ (c : Thread nD τ) none Set.univ v2 K = waitSpec (c : Thread nD τ) Set.univ vm2 vk2 K)
    (hvm2 : vm2 = csem (.rcv 2 (sl (h + 1)))) (hvk2 : vk2 = NN 2)
    {n' : Dev nD} (hn' : n' = prv c) {sem : Sem sig} (hsem : (SemLoc.reg sem) = csem .cred) {k' : ℤ} (hk' : k' = ((1 : ℕ) : ℤ))
    {β : Type} {kont : PUnit → Prog (TpuEff nD τ sig (Elt F) Λ₀ .tc) β} {Q : β → sProp 𝕄} :
    iprop(invs m ρ ∗ levAts L lv ∗ pack c (sl h) (pk' m ρ h c) ∗ grant c h ∗ pos c h ∗ hopTok c h ∗ hopRcv c h ∗ owed c (owe c h) ∗ reached ER (cell c .cred) h)
      ⊢ iprop((pack c (sl (h + 1)) (pk m ρ (h + 1) c) -∗ pos c (h + 1) -∗ owed c (owe c (h + 1)) -∗ back c (h + 1) -∗ wp frame (wpE (defs₀ (F := F)) 𝒱₀ (c : Thread nD τ) none) Set.univ (kont ⟨⟩) Q)
        -∗ wp frame (wpE (defs₀ (F := F)) 𝒱₀ (c : Thread nD τ) none) Set.univ
            (.op (.enqueueDma src0 (.remote (n0 : Thread nD τ) dst0 ss0 hsc0) sr0 hwa0 hwb0 ht0) fun _ =>
            .op (.enqueueDma src1 (.remote (n1 : Thread nD τ) dst1 ss1 hsc1) sr1 hwa1 hwb1 ht1) fun _ =>
            .op (.enqueueDma src2 (.remote (n2 : Thread nD τ) dst2 ss2 hsc2) sr2 hwa2 hwb2 ht2) fun _ =>
            .op u0 fun _ => .op v0 fun _ =>
            .op u1 fun _ => .op v1 fun _ =>
            .op u2 fun _ => .op v2 fun _ =>
            .op (.semSignal (n' : Thread nD τ) sem k') kont) Q) := by
  have hO0 : Above 0 (owe c (h + 1) + dueA c h) := (Above.owe c (h + 1) (by omega) (by omega)).add (Above.dueA c h hh (by omega))
  have hO1 : Above (2 * h + 2) (owe c (h + 1) + dueA c h) := (Above.owe c (h + 1) (by omega) (by omega)).add (Above.dueA c h hh (by omega))
  rw [owe_step c h hh]
  unfold pack grant pos hopTok hopRcv slots
  iintro ⟨#HI, #HL, ⟨HP0, HP1, HP2⟩, ⟨⟨HG0, HG1, HG2⟩, #HrR0, #HrR1, #HrR2⟩, ⟨⟨HS0, HS1, HS2⟩, HR0, HR1, HR2⟩, ⟨⟨HT0, HT1, HT2⟩, HTA⟩, ⟨HV0, HV1, HV2⟩, HO, #HrC⟩ HK
  ihave HS0 := (sndPos_reached 0 c h) $$ HS0
  icases HS0 with ⟨HS0, #HrS0⟩
  ihave HS1 := (sndPos_reached 1 c h) $$ HS1
  icases HS1 with ⟨HS1, #HrS1⟩
  ihave HS2 := (sndPos_reached 2 c h) $$ HS2
  icases HS2 with ⟨HS2, #HrS2⟩
  ihave HR0 := (rcvPos_reached 0 c h) $$ HR0
  icases HR0 with ⟨HR0, #HrV0⟩
  ihave HR1 := (rcvPos_reached 1 c h) $$ HR1
  icases HR1 with ⟨HR1, #HrV1⟩
  ihave HR2 := (rcvPos_reached 2 c h) $$ HR2
  icases HR2 with ⟨HR2, #HrV2⟩
  iapply (sendX m ρ c h hh hsr0 hds0 hn0 hss0 hsv0) $$ [HP0 HG0 HO HT0]
  · isplitr; · iexact HI
    isplitl [HP0]; · iexact HP0
    isplitl [HG0]; · iexact HG0
    isplitl [HO]; · iexact HO
    isplitl [HT0]; · iexact HT0
    isplitr; · iexact HrS0
    isplitr; · iexact HrR0
    unfold rcvExtra; rw [if_neg (by decide)]; iempintro
  iintro HC0 HO
  iapply (sendM m ρ c h hh hsr1 hds1 hn1 hss1 hsv1) $$ [HP1 HG1 HO HT1]
  · isplitr; · iexact HI
    isplitl [HP1]; · iexact HP1
    isplitl [HG1]; · iexact HG1
    isplitl [HO]; · iexact HO
    isplitl [HT1]; · iexact HT1
    isplitr; · iexact HrS1
    isplitr; · iexact HrR1
    unfold rcvExtra; rw [if_neg (by decide)]; iempintro
  iintro HC1 HO
  iapply (sendA m ρ c h hh hsr2 hds2 hn2 hss2 hsv2) $$ [HP2 HG2 HO HT2]
  · isplitr; · iexact HI
    isplitl [HP2]; · iexact HP2
    isplitl [HG2]; · iexact HG2
    isplitl [HO]; · iexact HO
    isplitl [HT2]; · iexact HT2
    isplitr; · iexact HrS2
    isplitr; · iexact HrR2
    unfold rcvExtra; rw [if_pos rfl, prv_nxt]; iexact HrC
  iintro HC2 HO
  iapply (waitSnd m ρ 0 c h hh hu0 hum0 huk0 hO0) $$ [HC0 HO HS0]
  · isplitr; · iexact HI
    isplitr; · iexact HL
    isplitl [HC0]; · iexact HC0
    isplitl [HO] <;> iassumption
  rw [slotP_zero]
  iintro HO HS0 HB0
  iapply (waitRcv m ρ 0 c h hh hv0 hvm0 hvk0 hO1) $$ [HV0 HO HR0]
  · isplitr; · iexact HI
    isplitr; · iexact HL
    isplitl [HV0]; · iexact HV0
    isplitl [HO] <;> iassumption
  rw [slotP_zero, rcvExtra_zero]
  iintro HO HR0 HP0 -
  iapply (waitSnd m ρ 1 c h hh hu1 hum1 huk1 hO0) $$ [HC1 HO HS1]
  · isplitr; · iexact HI
    isplitr; · iexact HL
    isplitl [HC1]; · iexact HC1
    isplitl [HO] <;> iassumption
  rw [slotP_one]
  iintro HO HS1 HB1
  iapply (waitRcv m ρ 1 c h hh hv1 hvm1 hvk1 hO1) $$ [HV1 HO HR1]
  · isplitr; · iexact HI
    isplitr; · iexact HL
    isplitl [HV1]; · iexact HV1
    isplitl [HO] <;> iassumption
  rw [slotP_one, rcvExtra_one]
  iintro HO HR1 HP1 -
  iapply (waitSnd m ρ 2 c h hh hu2 hum2 huk2 hO0) $$ [HC2 HO HS2]
  · isplitr; · iexact HI
    isplitr; · iexact HL
    isplitl [HC2]; · iexact HC2
    isplitl [HO] <;> iassumption
  rw [slotP_two]
  iintro HO HS2 HB2
  iapply (waitRcv m ρ 2 c h hh hv2 hvm2 hvk2 hO1) $$ [HV2 HO HR2]
  · isplitr; · iexact HI
    isplitr; · iexact HL
    isplitl [HV2]; · iexact HV2
    isplitl [HO] <;> iassumption
  rw [slotP_two, rcvExtra_two]
  iintro HO HR2 HP2 #HrA
  ihave HB := (backs m ρ c h) $$ [HB0 HB1 HB2]
  · isplitl [HB0]; · iexact HB0
    isplitl [HB1]; · iexact HB1
    isplitl [HB2]; · iexact HB2
    isplitr; · iexact HrV0
    isplitr; · iexact HrV1
    iexact HrV2
  icases HB with ⟨Hpay, Hback⟩
  unfold dueA
  iapply (signal_one m ρ c (prv c) .cred h h false (by rw [duties_cred h hh]; exact Finset.mem_singleton_self _) rfl hn' hsem hk' (by routes)) $$ [HO HTA Hpay]
  · isplitr; · iexact HI
    isplitl [HO]; · iexact HO
    isplitl [HTA]; · iexact HTA
    isplitl [Hpay]; · iexact Hpay
    iexact HrA
  iintro HO
  iapply HK $$ [HP0 HP1 HP2] [HS0 HS1 HS2 HR0 HR1 HR2] [HO] [Hback]
  · isplitl [HP0]; · iexact HP0
    isplitl [HP1]; · iexact HP1
    iexact HP2
  · isplitl [HS0 HS1 HS2]
    · isplitl [HS0]; · iexact HS0
      isplitl [HS1] <;> iassumption
    · isplitl [HR0]; · iexact HR0
      isplitl [HR1] <;> iassumption
  · iexact HO
  · iexact Hback

end Cert.Proof.Ring

end
-- ==== Proof.Loop.lean ====
/-
  The loop: its trip `k` is hop `k + 1`.
-/
module

public import proofs.«01_k».proof.Proof.Hop

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The operands -/

theorem xQ_of {off : Fin 3 → ℕ} {inb : ∀ a, off a + S1x1024x512.size a ≤ S2x1024x512.size a} {hs : ∀ a, (Rect.unit (s := S2x1024x512) off S1x1024x512.size inb).stride a = 1} (s : Fin 2) (h : off = ![s.val, 0, 0]) :
    (xM.slice (Rect.unit (s := S2x1024x512) off S1x1024x512.size inb) hs).squeeze S1024x512 squeezes_S1x1024x512_S1024x512 = xQ s := by
  subst h; rfl
theorem mQ_of {off : Fin 3 → ℕ} {inb : ∀ a, off a + S1x2x1024.size a ≤ S2x2x1024.size a} {hs : ∀ a, (Rect.unit (s := S2x2x1024) off S1x2x1024.size inb).stride a = 1} (s : Fin 2) (h : off = ![s.val, 0, 0]) :
    (mM.slice (Rect.unit (s := S2x2x1024) off S1x2x1024.size inb) hs).squeeze S2x1024 squeezes_S1x2x1024_S2x1024 = mQ s := by
  subst h; rfl
theorem aQ_of {off : Fin 3 → ℕ} {inb : ∀ a, off a + S1x1024x1024.size a ≤ S2x1024x1024.size a} {hs : ∀ a, (Rect.unit (s := S2x1024x1024) off S1x1024x1024.size inb).stride a = 1} (s : Fin 2) (h : off = ![s.val, 0, 0]) :
    (aM.slice (Rect.unit (s := S2x1024x1024) off S1x1024x1024.size inb) hs).squeeze S1024x1024 squeezes_S1x1024x1024_S1024x1024 = aQ s := by
  subst h; rfl
theorem snd0_of {off : Fin 1 → ℕ} {inb : ∀ a, off a + S1.size a ≤ S2.size a} (s : Fin 2) (h : off = ![s.val]) :
    SemLoc.dma ((cc0_scratch3.slice (Rect.unit (s := S2) off S1.size inb)).squeeze S_ squeezes_S1_S_).sem = csem (.snd 0 s) := by
  subst h; revert s; decide
theorem rcv0_of {off : Fin 1 → ℕ} {inb : ∀ a, off a + S1.size a ≤ S2.size a} (s : Fin 2) (h : off = ![s.val]) :
    SemLoc.dma ((cc0_scratch4.slice (Rect.unit (s := S2) off S1.size inb)).squeeze S_ squeezes_S1_S_).sem = csem (.rcv 0 s) := by
  subst h; revert s; decide
theorem snd1_of {off : Fin 1 → ℕ} {inb : ∀ a, off a + S1.size a ≤ S2.size a} (s : Fin 2) (h : off = ![s.val]) :
    SemLoc.dma ((cc0_scratch5.slice (Rect.unit (s := S2) off S1.size inb)).squeeze S_ squeezes_S1_S_).sem = csem (.snd 1 s) := by
  subst h; revert s; decide
theorem rcv1_of {off : Fin 1 → ℕ} {inb : ∀ a, off a + S1.size a ≤ S2.size a} (s : Fin 2) (h : off = ![s.val]) :
    SemLoc.dma ((cc0_scratch6.slice (Rect.unit (s := S2) off S1.size inb)).squeeze S_ squeezes_S1_S_).sem = csem (.rcv 1 s) := by
  subst h; revert s; decide
theorem snd2_of {off : Fin 1 → ℕ} {inb : ∀ a, off a + S1.size a ≤ S2.size a} (s : Fin 2) (h : off = ![s.val]) :
    SemLoc.dma ((cc0_scratch7.slice (Rect.unit (s := S2) off S1.size inb)).squeeze S_ squeezes_S1_S_).sem = csem (.snd 2 s) := by
  subst h; revert s; decide
theorem rcv2_of {off : Fin 1 → ℕ} {inb : ∀ a, off a + S1.size a ≤ S2.size a} (s : Fin 2) (h : off = ![s.val]) :
    SemLoc.dma ((cc0_scratch8.slice (Rect.unit (s := S2) off S1.size inb)).squeeze S_ squeezes_S1_S_).sem = csem (.rcv 2 s) := by
  subst h; revert s; decide

theorem trips_eq : k0_t1_loop.trips = 30 := by decide +kernel

theorem sl_val (h : ℕ) : (sl h).val = h % 2 := rfl
theorem off_next (k : ℕ) : 1 - (k + 1) % 2 = (sl (k + 1 + 1)).val := by rw [sl_val]; omega

/-- The packet with the device's share stored. -/
theorem pack_add (c : Dev nD) (s : Fin 2) (h : ℕ) :
    iprop(slotX c s (pk m ρ h c) ∗ slotM c s (pk m ρ h c) ∗ slotA c s (pk' m ρ h c)) ⊢ (pack c s (pk' m ρ h c) : sProp 𝕄) := Entails.refl _

/-- What holds before trip `k`. -/
def loopI (c : Dev nD) (k : ℕ) : sProp 𝕄 :=
  iprop(invs m ρ ∗ levAts L lv ∗ expP m ρ c ∗ pack c (sl (k + 1)) (pk m ρ (k + 1) c) ∗ pos c (k + 1) ∗ at' c .cred k ∗ hopCred c k ∗ rest c (k + 1)
    ∗ owed c (owe c (k + 1)) ∗ back c (k + 1))

set_option maxRecDepth 65536 in
theorem loop_step (c : Dev nD) (v5 v7 : BitVec 32) (k : Fin k0_t1_loop.trips) (acc : Unit) :
    (loopI m ρ c k.val : sProp 𝕄) ⊢ wp frame (wpE (defs₀ (F := F)) 𝒱₀ (c : Thread nD τ) none) Set.univ
      (k0_t1_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 c (meW c) v5 v7 k acc) (fun _ => loopI m ρ c (k.val + 1)) := by
  have hk : k.val < 30 := trips_eq ▸ k.isLt
  unfold k0_t1_body
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret]
  unfold loopI
  iintro ⟨#HI, #HL, HE, HP, Hpos, Hat, HC, Hrest, HO, -⟩
  unfold pack
  icases HP with ⟨HX, HM, HA⟩
  iapply (loadX c (sl (k.val + 1)) (pk m ρ (k.val + 1) c) (k0_off1_eq k)) $$ HX
  iintro HX
  iapply (loadR0 c (sl (k.val + 1)) (pk m ρ (k.val + 1) c) (k0_off2_eq k)) $$ HM
  iintro HM
  iapply (loadR1 c (sl (k.val + 1)) (pk m ρ (k.val + 1) c) (k0_off3_eq k)) $$ HM
  iintro HM
  iapply (loadA c (sl (k.val + 1)) (pk m ρ (k.val + 1) c) (k0_off4_eq k)) $$ HA
  iintro HA
  iapply (loadE m ρ c 0 rfl) $$ HE
  iintro HE
  iapply (loadE m ρ c 1 rfl) $$ HE
  iintro HE
  iapply (loadE m ρ c 2 rfl) $$ HE
  iintro HE
  iapply (loadE m ρ c 3 rfl) $$ HE
  iintro HE
  iapply (loadA c (sl (k.val + 1)) (pk m ρ (k.val + 1) c) (k0_off4_eq k)) $$ HA
  iintro HA
  ihave HA := (slotA_any c _ _) $$ HA
  iapply (storeA c (sl (k.val + 1)) (pk' m ρ (k.val + 1) c) (k0_off4_eq k) (w := _) rfl) $$ HA
  iintro HA
  unfold hopCred
  iapply (waitCred m ρ c k.val (by omega) (wpE_semWait_eq 𝒱₀ (c : Thread nD τ) none Set.univ) rfl rfl (Above.owe c (k.val + 1) (by omega) (by omega))) $$ [HC HO Hat]
  · isplitr; · iexact HI
    isplitr; · iexact HL
    isplitl [HC]; · iexact HC
    isplitl [HO] <;> iassumption
  rw [if_pos hk]
  iintro HO Hat HG
  ihave Hr := (rest_step c (k.val + 1) (by omega)) $$ Hrest
  icases Hr with ⟨⟨HT, HV, HC⟩, Hrest⟩
  unfold at'
  icases Hat with ⟨Hat, #Hrc⟩
  iapply (hopTail m ρ c (k.val + 1) (by omega)
    (xQ_of (sl (k.val + 1)) (k0_off8_eq k)) (xQ_of (sl (k.val + 1 + 1)) ((k0_off7_eq k).trans (by rw [off_next]))) (dev7_eq c)
    (snd0_of (sl (k.val + 1)) (k0_off5_eq k)) (rcv0_of (sl (k.val + 1 + 1)) ((k0_off6_eq k).trans (by rw [off_next])))
    (mQ_of (sl (k.val + 1)) (k0_off10_eq k)) (mQ_of (sl (k.val + 1 + 1)) ((k0_off9_eq k).trans (by rw [off_next]))) (dev8_eq c)
    (snd1_of (sl (k.val + 1)) (k0_off5_eq k)) (rcv1_of (sl (k.val + 1 + 1)) ((k0_off6_eq k).trans (by rw [off_next])))
    (aQ_of (sl (k.val + 1)) (k0_off12_eq k)) (aQ_of (sl (k.val + 1 + 1)) ((k0_off11_eq k).trans (by rw [off_next]))) (dev9_eq c)
    (snd2_of (sl (k.val + 1)) (k0_off5_eq k)) (rcv2_of (sl (k.val + 1 + 1)) ((k0_off6_eq k).trans (by rw [off_next])))
    (wpE_waitDma2_eq 𝒱₀ (c : Thread nD τ) none Set.univ) (snd0_of (sl (k.val + 1)) (k0_off5_eq k)) (by rfl)
    (wpE_waitDma2_eq 𝒱₀ (c : Thread nD τ) none Set.univ) (rcv0_of (sl (k.val + 1 + 1)) ((k0_off6_eq k).trans (by rw [off_next]))) (by rfl)
    (wpE_waitDma2_eq 𝒱₀ (c : Thread nD τ) none Set.univ) (snd1_of (sl (k.val + 1)) (k0_off5_eq k)) (by rfl)
    (wpE_waitDma2_eq 𝒱₀ (c : Thread nD τ) none Set.univ) (rcv1_of (sl (k.val + 1 + 1)) ((k0_off6_eq k).trans (by rw [off_next]))) (by rfl)
    (wpE_waitDma2_eq 𝒱₀ (c : Thread nD τ) none Set.univ) (snd2_of (sl (k.val + 1)) (k0_off5_eq k)) (by rfl)
    (wpE_waitDma2_eq 𝒱₀ (c : Thread nD τ) none Set.univ) (rcv2_of (sl (k.val + 1 + 1)) ((k0_off6_eq k).trans (by rw [off_next]))) (by rfl)
    (dev10_eq c) rfl rfl) $$ [HX HM HA HG Hpos HT HV HO]
  · isplitr; · iexact HI
    isplitr; · iexact HL
    isplitl [HX HM HA]
    · iapply (pack_add m ρ c (sl (k.val + 1)) (k.val + 1))
      isplitl [HX]; · iexact HX
      isplitl [HM] <;> iassumption
    isplitl [HG]; · iexact HG
    isplitl [Hpos]; · iexact Hpos
    isplitl [HT]; · iexact HT
    isplitl [HV]; · iexact HV
    isplitl [HO]; · iexact HO
    iexact Hrc
  unfold pack hopCred
  iintro HP Hpos HO HB
  rw [wp_ret]
  imodintro
  isplitr; · iexact HI
  isplitr; · iexact HL
  isplitl [HE]; · iexact HE
  isplitl [HP]; · iexact HP
  isplitl [Hpos]; · iexact Hpos
  isplitl [Hat]
  · isplitl [Hat]
    · iexact Hat
    · iexact Hrc
  isplitl [HC]; · iexact HC
  isplitl [Hrest]; · iexact Hrest
  isplitl [HO] <;> iassumption

end Cert.Proof.Ring

end
-- ==== Proof.Ends.lean ====
/-
  The two ends of a device's program: the barrier wait, the last copy, and the closing of every cell.
-/
module

public import proofs.«01_k».proof.Proof.Loop

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## What a device starts from -/

/-- Every cell is at round 0. -/
def reach0 : sProp 𝕄 := bigSep Finset.univ fun q : Dev nD × CK => reached ER (cell q.1 q.2) 0

instance reach0_persistent : BI.Persistent (reach0 : sProp 𝕄) := by unfold reach0; infer_instance

theorem reach0_at (c : Dev nD) (k : CK) : (reach0 : sProp 𝕄) ⊢ reached ER (cell c k) 0 := by
  unfold reach0
  exact bigSep_elim (Finset.mem_univ (c, k))

/-- Device `c` stands at round `R k` of each of its cells. -/
def allAt (c : Dev nD) (R : CK → ℕ) : sProp 𝕄 := bigSep Finset.univ fun k : CK => atPos ER (cell c k) (R k) ∅ 0

/-- The duties device `c` pays. -/
def payToks (c : Dev nD) : sProp 𝕄 :=
  iprop(dutyTok ER (cell (prv c) .bar) 0 true ∗ dutyTok ER (cell (nxt c) .bar) 0 false
    ∗ (bigSep (Finset.Ico 0 31) fun j => hopTok c j) ∗ dutyTok ER (cell c .so) 0 false ∗ dutyTok ER (cell (nxt c) .ro) 0 false)

/-- The credits it holds. -/
def allCreds (c : Dev nD) : sProp 𝕄 :=
  iprop(cred (tallyAt (cell c .bar) 0 2) ∗ (bigSep (Finset.Ico 0 31) fun j => iprop(hopRcv c j ∗ hopCred c j)) ∗ cred (tallyAt (cell c .ro) 31 NO))

theorem rest_intro (c : Dev nD) :
    iprop((bigSep (Finset.Ico 0 31) fun j => hopTok c j) ∗ (bigSep (Finset.Ico 0 31) fun j => iprop(hopRcv c j ∗ hopCred c j))) ⊢ (rest c 0 : sProp 𝕄) := by
  unfold rest
  rw [← bigSep_sep']

/-- All sixteen kinds, one by one. -/
theorem bigSep_CK (Φ : CK → sProp 𝕄) : bigSep Finset.univ Φ =
    iprop(Φ .bar ∗ Φ .cred ∗ Φ (.snd 0 0) ∗ Φ (.snd 0 1) ∗ Φ (.rcv 0 0) ∗ Φ (.rcv 0 1) ∗ Φ (.snd 1 0) ∗ Φ (.snd 1 1) ∗ Φ (.rcv 1 0) ∗ Φ (.rcv 1 1)
      ∗ Φ (.snd 2 0) ∗ Φ (.snd 2 1) ∗ Φ (.rcv 2 0) ∗ Φ (.rcv 2 1) ∗ Φ .so ∗ Φ .ro) :=
  bigSep_univ_eq_bigSepL CK.all (by decide) (by decide) Φ

/-- The positions at the start, hop by hop's. -/
theorem pos_zero (c : Dev nD) : iprop(reach0 ∗ allAt c fun _ => 0) ⊢ (iprop(at' c .bar 0 ∗ at' c .cred 0 ∗ at' c .so 0 ∗ at' c .ro 0 ∗ pos c 0) : sProp 𝕄) := by
  unfold allAt
  rw [bigSep_CK]
  unfold pos sndPos rcvPos at'
  iintro ⟨#HR, H1, H2, H3, H4, H5, H6, H7, H8, H9, H10, H11, H12, H13, H14, H15, H16⟩
  ihave Hr := (reach0_at c .bar) $$ HR
  icases Hr with #HR1
  ihave Hr := (reach0_at c .cred) $$ HR
  icases Hr with #HR2
  ihave Hr := (reach0_at c (.snd 0 0)) $$ HR
  icases Hr with #HR3
  ihave Hr := (reach0_at c (.snd 0 1)) $$ HR
  icases Hr with #HR4
  ihave Hr := (reach0_at c (.rcv 0 0)) $$ HR
  icases Hr with #HR5
  ihave Hr := (reach0_at c (.rcv 0 1)) $$ HR
  icases Hr with #HR6
  ihave Hr := (reach0_at c (.snd 1 0)) $$ HR
  icases Hr with #HR7
  ihave Hr := (reach0_at c (.snd 1 1)) $$ HR
  icases Hr with #HR8
  ihave Hr := (reach0_at c (.rcv 1 0)) $$ HR
  icases Hr with #HR9
  ihave Hr := (reach0_at c (.rcv 1 1)) $$ HR
  icases Hr with #HR10
  ihave Hr := (reach0_at c (.snd 2 0)) $$ HR
  icases Hr with #HR11
  ihave Hr := (reach0_at c (.snd 2 1)) $$ HR
  icases Hr with #HR12
  ihave Hr := (reach0_at c (.rcv 2 0)) $$ HR
  icases Hr with #HR13
  ihave Hr := (reach0_at c (.rcv 2 1)) $$ HR
  icases Hr with #HR14
  ihave Hr := (reach0_at c .so) $$ HR
  icases Hr with #HR15
  ihave Hr := (reach0_at c .ro) $$ HR
  icases Hr with #HR16
  isplitl [H1]
  · isplitl [H1]
    · iexact H1
    · iexact HR1
  isplitl [H2]
  · isplitl [H2]
    · iexact H2
    · iexact HR2
  isplitl [H15]
  · isplitl [H15]
    · iexact H15
    · iexact HR15
  isplitl [H16]
  · isplitl [H16]
    · iexact H16
    · iexact HR16
  isplitl [H3 H4 H7 H8 H11 H12]
  · isplitl [H3 H4]
    · isplitl [H3]
      · isplitl [H3]
        · iexact H3
        · iexact HR3
      · isplitl [H4]
        · iexact H4
        · iexact HR4
    isplitl [H7 H8]
    · isplitl [H7]
      · isplitl [H7]
        · iexact H7
        · iexact HR7
      · isplitl [H8]
        · iexact H8
        · iexact HR8
    isplitl [H11]
    · isplitl [H11]
      · iexact H11
      · iexact HR11
    · isplitl [H12]
      · iexact H12
      · iexact HR12
  · isplitl [H6 H5]
    · isplitl [H6]
      · isplitl [H6]
        · iexact H6
        · iexact HR6
      · isplitl [H5]
        · iexact H5
        · iexact HR5
    isplitl [H10 H9]
    · isplitl [H10]
      · isplitl [H10]
        · iexact H10
        · iexact HR10
      · isplitl [H9]
        · iexact H9
        · iexact HR9
    isplitl [H14]
    · isplitl [H14]
      · iexact H14
      · iexact HR14
    · isplitl [H13]
      · iexact H13
      · iexact HR13

/-- The rounds a device ends at. -/
def lastR : CK → ℕ
  | .bar => 1 | .cred => 31 | .snd _ 0 => 16 | .snd _ 1 => 15 | .rcv _ 0 => 15 | .rcv _ 1 => 16 | .so => 1 | .ro => 1

theorem no_later (k : CK) (r : ℕ) (hr : lastR k ≤ r) : dutiesK k r = ∅ := by
  cases k with
  | bar => exact if_neg (by have : 1 ≤ r := hr; omega)
  | cred => exact if_neg (by have : 31 ≤ r := hr; omega)
  | so => exact if_neg (by have : 1 ≤ r := hr; omega)
  | ro => exact if_neg (by have : 1 ≤ r := hr; omega)
  | snd b s =>
    refine if_neg ?_
    match s, hr with
    | 0, hr => have h16 : 16 ≤ r := hr; show ¬ 2 * r + 0 < 31; omega
    | 1, hr => have h15 : 15 ≤ r := hr; show ¬ 2 * r + 1 < 31; omega
  | rcv b s =>
    refine if_neg ?_
    match s, hr with
    | 0, hr => have h15 : 15 ≤ r := hr; show ¬ 2 * r + 1 - 0 < 31; omega
    | 1, hr => have h16 : 16 ≤ r := hr; show ¬ 2 * r + 1 - 1 < 31; omega

/-- Every cell closes: its counter, at zero, is the device's again. -/
theorem close_all (c : Dev nD) : iprop(invs m ρ ∗ allAt c lastR) ⊢ (|={Set.univ}=> bigSep Finset.univ fun k : CK => semVal (cell c k) 0 : sProp 𝕄) := by
  have h1 (k : CK) : iprop(invs m ρ ∗ atPos ER (cell c k) (lastR k) ∅ 0) ⊢ (|={Set.univ}=> semVal (cell c k) 0 : sProp 𝕄) := by
    iintro ⟨#HI, Hat⟩
    ihave Hiv := (inv_at m ρ c k) $$ HI
    icases Hiv with ⟨%κ, #Hκ⟩
    iapply (Rounds.cell_close ER (rd m ρ) (Set.mem_univ κ) (fun h => h) (R := lastR k) (fun r hr => by rw [duties_cell]; exact no_later k r hr))
    isplitr; · iexact Hκ
    iexact Hat
  unfold allAt
  refine (sep_mono_left (BI.bigSep_of_persistent (Finset.univ : Finset CK) (invs m ρ))).trans ?_
  rw [← bigSep_sep']
  exact (bigSep_mono fun k _ => h1 k).trans (bigSep_fupd _ _)

/-- The positions at the end, all together. -/
theorem pos_last (c : Dev nD) : iprop(at' c .bar 1 ∗ at' c .cred 31 ∗ at' c .so 1 ∗ at' c .ro 1 ∗ pos c 31) ⊢ (allAt c lastR : sProp 𝕄) := by
  unfold allAt
  rw [bigSep_CK]
  unfold pos sndPos rcvPos at'
  iintro ⟨⟨H1, -⟩, ⟨H2, -⟩, ⟨H15, -⟩, ⟨H16, -⟩, ⟨⟨⟨H4, -⟩, ⟨H3, -⟩⟩, ⟨⟨H8, -⟩, ⟨H7, -⟩⟩, ⟨⟨H12, -⟩, ⟨H11, -⟩⟩⟩, ⟨⟨⟨H5, -⟩, ⟨H6, -⟩⟩, ⟨⟨H9, -⟩, ⟨H10, -⟩⟩, ⟨⟨H13, -⟩, ⟨H14, -⟩⟩⟩⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## The barrier -/

/-- The wait for both neighbours: slot 1 of the next device's buffers and its result staging buffer come with it. -/
theorem waitBar (c : Dev nD) {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = csem .bar) (hk : k' = 2) {O : CellTallies nD τ sig ℕ} (hO : Above 1 O)
    {β : Type} {kont : PUnit → Prog (TpuEff nD τ sig (Elt F) Λ₀ .tc) β} {Q : β → sProp 𝕄} :
    iprop(invs m ρ ∗ levAts L lv ∗ cred (tallyAt (cell c .bar) 0 2) ∗ owed c O ∗ at' c .bar 0)
      ⊢ iprop((owed c O -∗ at' c .bar 1 -∗ barPay c -∗ wp frame (wpE (defs₀ (F := F)) 𝒱₀ (c : Thread nD τ) none) Set.univ (kont ⟨⟩) Q) -∗ wp frame (wpE (defs₀ (F := F)) 𝒱₀ (c : Thread nD τ) none) Set.univ (.op w kont) Q) := by
  subst hsm; subst hk
  unfold owed at'
  iintro ⟨#HI, #HL, Hc, ⟨%W, HO⟩, ⟨Hat, -⟩⟩ HK
  ihave Hiv := (inv_at m ρ c .bar) $$ HI
  icases Hiv with ⟨%κ, #Hκ⟩
  ihave Hmw := (mayWait_cell (F := F) c .bar 0 O (by omega) hO) $$ HL
  have e := rest_bar m ρ c
  iapply (Rounds.wp_wait_rest_token 𝒱₀ ER (rd m ρ) (c : Thread nD τ) none (κ := κ) hw (Set.mem_univ κ) 0 (O := O) (W := W) (R := 0) (m := 0) (T := ∅)
      (show 0 + 2 = (rd m ρ).expect (cell c .bar) 0 by rw [expect_bar])) $$ [Hc HO Hmw Hat]
  · isplitr; · iexact Hκ
    isplitl [Hc]; · iexact Hc
    isplitl [HO]; · iexact HO
    isplitl [Hmw]; · iexact Hmw
    iexact Hat
  rw [e]
  iintro ⟨HO, Hat, Hr, -, Hp⟩
  iapply HK $$ [HO] [Hat Hr] [Hp]
  · iexists _; iexact HO
  · isplitl [Hat] <;> iassumption
  · iexact Hp

/-! ## The last copy -/

theorem toOut (c : Dev nD) (T : Pkt F) (fs : (cc0_scratch2 : Ref sig .tc).ty.Contents (Elt F)) (fd : (cc0_stg5_0 : Ref sig .tc).ty.Contents (Elt F)) (h : (vA 1).read (Elt F) fs = T.a) :
    ((oM.view.loc (c : Thread nD τ) ↦[oM.view.set]{fullShare} oM.view.write (Elt F) fd ((aQ 1).view.read (Elt F) fs) Finset.univ) : sProp 𝕄) ⊢ outP c (outOf T.a) := by
  rw [copyO, h]; exact Entails.refl _

/-- The partial result of the packet that has been round goes into the next device's result staging buffer. -/
theorem sendO (c : Dev nD) {src dst : Memref sig .tc .vmem S1024x1024 .f32} {n : Dev nD} {sS sem : SemLoc sig}
    (hsr : src = aQ 1) (hds : dst = oM) (hn : n = nxt c) (hsS : sS = csem .so) (hsem : sem = csem .ro)
    {hsc : dst.view.ref.isScScratch = false} {hw : src.view.WordExact} {hw' : dst.view.WordExact}
    {ht : DmaTarget.Typed (p := .tc) .vmem sem (.remote (n : Thread nD τ) dst sS hsc)} {O : CellTallies nD τ sig ℕ}
    {β : Type} {kont : PUnit → Prog (TpuEff nD τ sig (Elt F) Λ₀ .tc) β} {Q : β → sProp 𝕄} :
    iprop(invs m ρ ∗ slotA c 1 (pk' m ρ 31 c) ∗ (∃ f, outP (nxt c) f) ∗ owed c (O + tallyAt (cell (nxt c) .ro) 31 NO)
        ∗ dutyTok ER (cell c .so) 0 false ∗ reached ER (cell c .so) 0 ∗ dutyTok ER (cell (nxt c) .ro) 0 false ∗ reached ER (cell (nxt c) .ro) 0)
      ⊢ iprop((cred (tallyAt (cell c .so) 0 NO) -∗ owed c O -∗ wp frame (wpE (defs₀ (F := F)) 𝒱₀ (c : Thread nD τ) none) Set.univ (kont ⟨⟩) Q)
        -∗ wp frame (wpE (defs₀ (F := F)) 𝒱₀ (c : Thread nD τ) none) Set.univ (.op (.enqueueDma src (.remote (n : Thread nD τ) dst sS hsc) sem hw hw' ht) kont) Q) := by
  subst hn
  have hN : dst.view.amount sem = NO := by subst hds; subst hsem; rfl
  unfold owed
  iintro ⟨#HI, Hs, ⟨%fd, Hd⟩, ⟨%W, HO⟩, Ht1, Hr1, Ht2, Hr2⟩ HK
  ihave Hs := (ofSlotA c 1 _) $$ Hs
  icases Hs with ⟨%fs, %hfs, Hs⟩
  unfold outP
  ihave Hiv := (inv_at m ρ c .so) $$ HI
  icases Hiv with ⟨%κ₁, #Hκ₁⟩
  ihave Hiv := (inv_at m ρ (nxt c) .ro) $$ HI
  icases Hiv with ⟨%κ₂, #Hκ₂⟩
  have h1 : (((aQ 1).view.loc (c : Thread nD τ) ↦[(aQ 1).view.set]{fullShare} fs) : sProp 𝕄) ⊢ (rd m ρ).payload (cell c .so) 0 false := by
    rw [payload_cell]; exact toSlotA c 1 _ fs hfs
  have h2 : ((oM.view.loc (nxt c : Thread nD τ) ↦[oM.view.set]{fullShare} oM.view.write (Elt F) fd ((aQ 1).view.read (Elt F) fs) Finset.univ) : sProp 𝕄)
      ⊢ (rd m ρ).payload (cell (nxt c) .ro) 0 false := by
    rw [payload_cell]
    refine (toOut (nxt c) (pk' m ρ 31 c) fs fd hfs).trans ?_
    show _ ⊢ outP (nxt c) (outOf (pk' m ρ 31 (prv (nxt c))).a)
    rw [prv_nxt]
  subst hsr; subst hds; subst hsS; subst hsem
  iapply (Rounds.wp_send_pointsTo 𝒱₀ ER (rd m ρ) (c : Thread nD τ) none (c' := (nxt c : Thread nD τ)) (κ₁ := κ₁) (κ₂ := κ₂) (r₁ := 0) (r₂ := 0)
      (d₁ := false) (d₂ := false) (q := fullShare) (fs := fs) (fd := fd)
      (by rw [duties_cell]; exact Finset.mem_singleton_self _) (by rw [duties_cell]; exact Finset.mem_singleton_self _)
      31 0 NO hN (amount_cell m ρ c _ _ _) (amount_cell m ρ (nxt c) _ _ _) O rfl h1 h2) $$ [Hs Hd HO Ht1 Ht2 Hr1 Hr2]
  · isplitr; · iexact Hκ₁
    isplitr; · iexact Hκ₂
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply HK $$ [Hc] [HO]
  · iexact Hc
  · iexists _; iexact HO

end Cert.Proof.Ring

end
-- ==== Proof.Body.lean ====
/-
  A device's whole program: the entry barrier, hop 0, the loop of the hops 1 to 30, and the last hop.
-/
module

public import proofs.«01_k».proof.Proof.Ends

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The inputs' staging buffers -/

theorem hz2 : (![0, 0] : Fin 2 → ℕ) = fun _ => 0 := funext fun a => by fin_cases a <;> rfl

/-- Input 0's staging buffer on device `c`, holding the device's block. -/
def inP0 (c : Dev nD) : sProp 𝕄 := (Memref.whole cc0_stg0_0).view.loc (c : Thread nD τ) ↦[Finset.univ]{fullShare} (in0 m ρ c)

theorem load0 (c : Dev nD) {inb : ∀ a, (![0, 0] : Fin 2 → ℕ) a + S1024x512.size a ≤ S1024x512.size a}
    {hl : (Memref.whole cc0_stg0_0 : Memref sig .tc .vmem S1024x512 .f32).view.LoadsAt (Rect.unit (s := S1024x512) ![0, 0] S1024x512.size inb).toLoadRect}
    {β : Type} {kont : Vec F S1024x512 .f32 → Prog (TpuEff nD τ sig (Elt F) Λ₀ .tc) β} {Q : β → sProp 𝕄} :
    (inP0 m ρ c : sProp 𝕄) ⊢ iprop((inP0 m ρ c -∗ wp frame (wpE (defs₀ (F := F)) 𝒱₀ (c : Thread nD τ) none) Set.univ (kont (in0 m ρ c)) Q)
      -∗ wp frame (wpE (defs₀ (F := F)) 𝒱₀ (c : Thread nD τ) none) Set.univ (.op (.load (Memref.whole cc0_stg0_0 : Memref sig .tc .vmem S1024x512 .f32) (Rect.unit (s := S1024x512) ![0, 0] S1024x512.size inb).toLoadRect hl) kont) Q) := by
  have e : (Memref.whole cc0_stg0_0 : Memref sig .tc .vmem S1024x512 .f32).view.readAt (Elt F) (Rect.unit (s := S1024x512) ![0, 0] S1024x512.size inb).toLoadRect (in0 m ρ c) = in0 m ρ c :=
    Memref.readAt_unit_zero (Elt F) cc0_stg0_0 hz2 _ _
  have h := wp_load (defs := defs₀ (F := F)) 𝒱₀ (c : Thread nD τ) none (Γ := .empty) Set.univ (m := (Memref.whole cc0_stg0_0 : Memref sig .tc .vmem S1024x512 .f32))
    (r := (Rect.unit (s := S1024x512) ![0, 0] S1024x512.size inb).toLoadRect) (hl := hl) (S := Finset.univ) (q := fullShare) (f := in0 m ρ c) (Finset.subset_univ _) (k := kont) (Q := Q)
  rw [e] at h
  exact h

/-- Input 1's staging buffer on device `c`, holding the device's block. -/
def inP1 (c : Dev nD) : sProp 𝕄 := (Memref.whole cc0_stg1_0).view.loc (c : Thread nD τ) ↦[Finset.univ]{fullShare} (in1 m ρ c)

theorem load1 (c : Dev nD) {inb : ∀ a, (![0, 0] : Fin 2 → ℕ) a + S512x128.size a ≤ S512x128.size a}
    {hl : (Memref.whole cc0_stg1_0 : Memref sig .tc .vmem S512x128 .f32).view.LoadsAt (Rect.unit (s := S512x128) ![0, 0] S512x128.size inb).toLoadRect}
    {β : Type} {kont : Vec F S512x128 .f32 → Prog (TpuEff nD τ sig (Elt F) Λ₀ .tc) β} {Q : β → sProp 𝕄} :
    (inP1 m ρ c : sProp 𝕄) ⊢ iprop((inP1 m ρ c -∗ wp frame (wpE (defs₀ (F := F)) 𝒱₀ (c : Thread nD τ) none) Set.univ (kont (in1 m ρ c)) Q)
      -∗ wp frame (wpE (defs₀ (F := F)) 𝒱₀ (c : Thread nD τ) none) Set.univ (.op (.load (Memref.whole cc0_stg1_0 : Memref sig .tc .vmem S512x128 .f32) (Rect.unit (s := S512x128) ![0, 0] S512x128.size inb).toLoadRect hl) kont) Q) := by
  have e : (Memref.whole cc0_stg1_0 : Memref sig .tc .vmem S512x128 .f32).view.readAt (Elt F) (Rect.unit (s := S512x128) ![0, 0] S512x128.size inb).toLoadRect (in1 m ρ c) = in1 m ρ c :=
    Memref.readAt_unit_zero (Elt F) cc0_stg1_0 hz2 _ _
  have h := wp_load (defs := defs₀ (F := F)) 𝒱₀ (c : Thread nD τ) none (Γ := .empty) Set.univ (m := (Memref.whole cc0_stg1_0 : Memref sig .tc .vmem S512x128 .f32))
    (r := (Rect.unit (s := S512x128) ![0, 0] S512x128.size inb).toLoadRect) (hl := hl) (S := Finset.univ) (q := fullShare) (f := in1 m ρ c) (Finset.subset_univ _) (k := kont) (Q := Q)
  rw [e] at h
  exact h

/-- Input 2's staging buffer on device `c`, holding the device's block. -/
def inP2 (c : Dev nD) : sProp 𝕄 := (Memref.whole cc0_stg2_0).view.loc (c : Thread nD τ) ↦[Finset.univ]{fullShare} (in2 m ρ c)

theorem load2 (c : Dev nD) {inb : ∀ a, (![0, 0] : Fin 2 → ℕ) a + S1024x1.size a ≤ S1024x1.size a}
    {hl : (Memref.whole cc0_stg2_0 : Memref sig .tc .vmem S1024x1 .i32).view.LoadsAt (Rect.unit (s := S1024x1) ![0, 0] S1024x1.size inb).toLoadRect}
    {β : Type} {kont : Vec F S1024x1 .i32 → Prog (TpuEff nD τ sig (Elt F) Λ₀ .tc) β} {Q : β → sProp 𝕄} :
    (inP2 m ρ c : sProp 𝕄) ⊢ iprop((inP2 m ρ c -∗ wp frame (wpE (defs₀ (F := F)) 𝒱₀ (c : Thread nD τ) none) Set.univ (kont (in2 m ρ c)) Q)
      -∗ wp frame (wpE (defs₀ (F := F)) 𝒱₀ (c : Thread nD τ) none) Set.univ (.op (.load (Memref.whole cc0_stg2_0 : Memref sig .tc .vmem S1024x1 .i32) (Rect.unit (s := S1024x1) ![0, 0] S1024x1.size inb).toLoadRect hl) kont) Q) := by
  have e : (Memref.whole cc0_stg2_0 : Memref sig .tc .vmem S1024x1 .i32).view.readAt (Elt F) (Rect.unit (s := S1024x1) ![0, 0] S1024x1.size inb).toLoadRect (in2 m ρ c) = in2 m ρ c :=
    Memref.readAt_unit_zero (Elt F) cc0_stg2_0 hz2 _ _
  have h := wp_load (defs := defs₀ (F := F)) 𝒱₀ (c : Thread nD τ) none (Γ := .empty) Set.univ (m := (Memref.whole cc0_stg2_0 : Memref sig .tc .vmem S1024x1 .i32))
    (r := (Rect.unit (s := S1024x1) ![0, 0] S1024x1.size inb).toLoadRect) (hl := hl) (S := Finset.univ) (q := fullShare) (f := in2 m ρ c) (Finset.subset_univ _) (k := kont) (Q := Q)
  rw [e] at h
  exact h

/-- Input 4's staging buffer on device `c`, holding the device's block. -/
def inP4 (c : Dev nD) : sProp 𝕄 := (Memref.whole cc0_stg4_0).view.loc (c : Thread nD τ) ↦[Finset.univ]{fullShare} (in4 m ρ c)

theorem load4 (c : Dev nD) {inb : ∀ a, (![0, 0] : Fin 2 → ℕ) a + S512x1024.size a ≤ S512x1024.size a}
    {hl : (Memref.whole cc0_stg4_0 : Memref sig .tc .vmem S512x1024 .f32).view.LoadsAt (Rect.unit (s := S512x1024) ![0, 0] S512x1024.size inb).toLoadRect}
    {β : Type} {kont : Vec F S512x1024 .f32 → Prog (TpuEff nD τ sig (Elt F) Λ₀ .tc) β} {Q : β → sProp 𝕄} :
    (inP4 m ρ c : sProp 𝕄) ⊢ iprop((inP4 m ρ c -∗ wp frame (wpE (defs₀ (F := F)) 𝒱₀ (c : Thread nD τ) none) Set.univ (kont (in4 m ρ c)) Q)
      -∗ wp frame (wpE (defs₀ (F := F)) 𝒱₀ (c : Thread nD τ) none) Set.univ (.op (.load (Memref.whole cc0_stg4_0 : Memref sig .tc .vmem S512x1024 .f32) (Rect.unit (s := S512x1024) ![0, 0] S512x1024.size inb).toLoadRect hl) kont) Q) := by
  have e : (Memref.whole cc0_stg4_0 : Memref sig .tc .vmem S512x1024 .f32).view.readAt (Elt F) (Rect.unit (s := S512x1024) ![0, 0] S512x1024.size inb).toLoadRect (in4 m ρ c) = in4 m ρ c :=
    Memref.readAt_unit_zero (Elt F) cc0_stg4_0 hz2 _ _
  have h := wp_load (defs := defs₀ (F := F)) 𝒱₀ (c : Thread nD τ) none (Γ := .empty) Set.univ (m := (Memref.whole cc0_stg4_0 : Memref sig .tc .vmem S512x1024 .f32))
    (r := (Rect.unit (s := S512x1024) ![0, 0] S512x1024.size inb).toLoadRect) (hl := hl) (S := Finset.univ) (q := fullShare) (f := in4 m ρ c) (Finset.subset_univ _) (k := kont) (Q := Q)
  rw [e] at h
  exact h

/-- What a device's program starts from, -/
def bodyIn (c : Dev nD) : sProp 𝕄 :=
  iprop(invs m ρ ∗ levAts L lv ∗ reach0 ∗ (allAt c fun _ => 0) ∗ payToks c ∗ allCreds c ∗ slots c 0 ∗ slots c 1
    ∗ inP0 m ρ c ∗ inP1 m ρ c ∗ inP2 m ρ c ∗ expP m ρ c ∗ inP4 m ρ c ∗ (∃ f, outP c f) ∗ owed c (oweAll c))

/-- and what it ends with: the result is in its staging buffer. -/
def bodyOut (c : Dev nD) : sProp 𝕄 :=
  iprop((bigSep Finset.univ fun k : CK => semVal (cell c k) 0) ∗ slots c 0 ∗ slots c 1
    ∗ inP0 m ρ c ∗ inP1 m ρ c ∗ inP2 m ρ c ∗ expP m ρ c ∗ inP4 m ρ c ∗ outP c (res m ρ c) ∗ owed c 0)

/-- The duty at the previous device's barrier cell hands over what this device lends: slot 1 and its result staging buffer. -/
theorem barPay_prv (c : Dev nD) : iprop(slots c 1 ∗ ∃ f, outP c f) ⊢ (payK m ρ (prv c) .bar 0 true : sProp 𝕄) := by
  show _ ⊢ barPay (prv c)
  unfold barPay
  rw [nxt_prv]

theorem barPay_nxt (c : Dev nD) : iprop(emp) ⊢ (payK m ρ (nxt c) .bar 0 false : sProp 𝕄) := Entails.refl _

theorem grant_zero (c : Dev nD) : iprop(reach0 ∗ slots (nxt c) 1) ⊢ (grant c 0 : sProp 𝕄) := by
  unfold grant
  iintro ⟨#HR, Hs⟩
  isplitl [Hs]; · iexact Hs
  isplitr; · iapply (reach0_at (nxt c) (.rcv 0 1)); iexact HR
  isplitr; · iapply (reach0_at (nxt c) (.rcv 1 1)); iexact HR
  iapply (reach0_at (nxt c) (.rcv 2 1)); iexact HR

theorem due_bar (c : Dev nD) : oweAll c = oweB c + tallyAt (cell (prv c) .bar) 0 1 := rfl
theorem due_bar' (c : Dev nD) : oweB c = owe c 0 + tallyAt (cell (nxt c) .bar) 0 1 := rfl

/-- What the loop leaves. -/
theorem loopI_last (c : Dev nD) : (loopI m ρ c k0_t1_loop.trips : sProp 𝕄) ⊢ iprop(expP m ρ c ∗ slotX c 1 (pk m ρ 31 c) ∗ slotM c 1 (pk m ρ 31 c) ∗ slotA c 1 (pk m ρ 31 c)
    ∗ pos c 31 ∗ at' c .cred 30 ∗ hopCred c 30 ∗ owed c (owe c 31) ∗ back c 31) := by
  rw [trips_eq]
  unfold loopI pack
  iintro ⟨-, -, HE, ⟨HX, HM, HA⟩, Hpos, Hat, HC, -, HO, HB⟩
  isplitl [HE]; · iexact HE
  isplitl [HX]; · iexact HX
  isplitl [HM]; · iexact HM
  isplitl [HA]; · iexact HA
  isplitl [Hpos]; · iexact Hpos
  isplitl [Hat]; · iexact Hat
  isplitl [HC]; · iexact HC
  isplitl [HO] <;> iassumption

/-- The end of the program, from what its last steps leave. -/
theorem bodyOut_intro (c : Dev nD) : iprop((bigSep Finset.univ fun k : CK => semVal (cell c k) 0) ∗ back c 31
    ∗ slotX c 1 (pk m ρ 31 c) ∗ slotM c 1 (pk m ρ 31 c) ∗ payK m ρ c .so 0 false ∗ inP0 m ρ c ∗ inP1 m ρ c ∗ inP2 m ρ c ∗ expP m ρ c ∗ inP4 m ρ c
    ∗ payK m ρ c .ro 0 false ∗ owed c 0) ⊢ (bodyOut m ρ c : sProp 𝕄) := by
  rw [show (payK m ρ c .so 0 false : sProp 𝕄) = slotA c 1 (pk' m ρ 31 c) from rfl, show (payK m ρ c .ro 0 false : sProp 𝕄) = outP c (res m ρ c) from rfl,
    show (back c 31 : sProp 𝕄) = slots c 0 from rfl]
  unfold bodyOut
  iintro ⟨Hsem, HB, HX, HM, HA, H0, H1, H2, HE, H4, Hres, HO⟩
  isplitl [Hsem]; · iexact Hsem
  isplitl [HB]; · iexact HB
  isplitl [HX HM HA]
  · unfold slots
    ihave HX := (slotX_any c _ _) $$ HX
    ihave HM := (slotM_any c _ _) $$ HM
    ihave HA := (slotA_any c _ _) $$ HA
    isplitl [HX]; · iexact HX
    isplitl [HM] <;> iassumption
  isplitl [H0]; · iexact H0
  isplitl [H1]; · iexact H1
  isplitl [H2]; · iexact H2
  isplitl [HE]; · iexact HE
  isplitl [H4]; · iexact H4
  isplitl [Hres] <;> iassumption

set_option pp.maxSteps 200 in
set_option maxRecDepth 65536 in
/-- The whole program. -/
theorem body_run (c : Dev nD) :
    (bodyIn m ρ c : sProp 𝕄) ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11) (fun _ => bodyOut m ρ c) := by
  simp only [cc0_body_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold cc0_body_skel
  simp only [k0_part13_eq_skeleton]
  unfold k0_part13_skel
  simp only [k0_part5_eq_skeleton, k0_part6_eq_skeleton, k0_part7_eq_skeleton, k0_part8_eq_skeleton, k0_part9_eq_skeleton, k0_part10_eq_skeleton, k0_part11_eq_skeleton, k0_part12_eq_skeleton]
  unfold k0_part5_skel k0_part6_skel k0_part7_skel k0_part8_skel k0_part9_skel k0_part10_skel k0_part11_skel k0_part12_skel
  simp only [semSignalWord, semWaitWord, Prog.lift, Prog.bind_op, Prog.bind_ret, Prog.pure_eq_ret, bind_assoc, wp_deviceId]
  unfold bodyIn payToks allCreds
  iintro ⟨#HI, #HL, #HR, Hat, ⟨HtP, HtN, Htok, HtS, HtR⟩, ⟨HcB, Hcr, HcR⟩, Hs0, Hs1, H0, H1, H2, HE, H4, Hout, HO⟩
  rw [due_bar]
  ihave Hrp := (reach0_at (prv c) .bar) $$ HR
  icases Hrp with #Hrp
  ihave Hrn := (reach0_at (nxt c) .bar) $$ HR
  icases Hrn with #Hrn
  iapply (signal_one m ρ c (prv c) .bar 0 0 true (Finset.mem_univ _) rfl (dev1_eq c) rfl rfl (by routes)) $$ [HO HtP Hs1 Hout]
  · isplitr; · iexact HI
    isplitl [HO]; · iexact HO
    isplitl [HtP]; · iexact HtP
    isplitl [Hs1 Hout]
    · iapply (barPay_prv m ρ c); isplitl [Hs1] <;> iassumption
    iexact Hrp
  iintro HO
  rw [due_bar']
  iapply (signal_one m ρ c (nxt c) .bar 0 0 false (Finset.mem_univ _) rfl (dev2_eq c) rfl rfl (by routes)) $$ [HO HtN]
  · isplitr; · iexact HI
    isplitl [HO]; · iexact HO
    isplitl [HtN]; · iexact HtN
    isplitr
    · iapply (barPay_nxt m ρ c); iempintro
    iexact Hrn
  iintro HO
  ihave Hps := (pos_zero c) $$ [Hat]
  · isplitr; · iexact HR
    iexact Hat
  icases Hps with ⟨HatB, HatC, HatS, HatR, Hpos⟩
  iapply (waitBar m ρ c (wpE_semWait_eq 𝒱₀ (c : Thread nD τ) none Set.univ) rfl rfl (Above.owe c 0 (by omega) (by omega))) $$ [HcB HO HatB]
  · isplitr; · iexact HI
    isplitr; · iexact HL
    isplitl [HcB]; · iexact HcB
    isplitl [HO] <;> iassumption
  unfold barPay
  iintro HO HatB ⟨HsN, HoN⟩
  iapply (load0 m ρ c) $$ H0
  iintro H0
  iapply (load1 m ρ c) $$ H1
  iintro H1
  iapply (load2 m ρ c) $$ H2
  iintro H2
  unfold slots
  icases Hs0 with ⟨HX, HM, HA⟩
  iapply (deadX c 0 rfl) $$ HX
  iintro %v HX
  iapply (storeX c 0 (pk m ρ 0 c) rfl (w := _) rfl) $$ HX
  iintro HX
  iapply (storeRows c 0 (pk m ρ 0 c) rfl rfl rfl rfl (w₀ := _) (w₁ := _) rfl rfl) $$ HM
  iintro HM
  iapply (load4 m ρ c) $$ H4
  iintro H4
  iapply (deadA c 0 rfl) $$ HA
  iintro %v' HA
  iapply (storeA c 0 (pk m ρ 0 c) rfl (w := _) rfl) $$ HA
  iintro HA
  iapply (loadX c 0 (pk m ρ 0 c) rfl) $$ HX
  iintro HX
  iapply (loadR0 c 0 (pk m ρ 0 c) rfl) $$ HM
  iintro HM
  iapply (loadR1 c 0 (pk m ρ 0 c) rfl) $$ HM
  iintro HM
  iapply (loadA c 0 (pk m ρ 0 c) rfl) $$ HA
  iintro HA
  iapply (loadE m ρ c 0 rfl) $$ HE
  iintro HE
  iapply (loadE m ρ c 1 rfl) $$ HE
  iintro HE
  iapply (loadE m ρ c 2 rfl) $$ HE
  iintro HE
  iapply (loadE m ρ c 3 rfl) $$ HE
  iintro HE
  iapply (loadA c 0 (pk m ρ 0 c) rfl) $$ HA
  iintro HA
  ihave HA := (slotA_any c _ _) $$ HA
  iapply (storeA c 0 (pk' m ρ 0 c) rfl (w := _) rfl) $$ HA
  iintro HA
  ihave Hrest := (rest_intro c) $$ [Htok Hcr]
  · isplitl [Htok] <;> iassumption
  ihave Hr := (rest_step c 0 (by omega)) $$ Hrest
  icases Hr with ⟨⟨HT, HV, HC⟩, Hrest⟩
  unfold at'
  icases HatC with ⟨HatC, #Hrc⟩
  iapply (hopTail m ρ c 0 (by omega)
    (xQ_of 0 rfl) (xQ_of 1 rfl) (dev3_eq c) (snd0_of 0 rfl) (rcv0_of 1 rfl)
    (mQ_of 0 rfl) (mQ_of 1 rfl) (dev4_eq c) (snd1_of 0 rfl) (rcv1_of 1 rfl)
    (aQ_of 0 rfl) (aQ_of 1 rfl) (dev5_eq c) (snd2_of 0 rfl) (rcv2_of 1 rfl)
    (wpE_waitDma2_eq 𝒱₀ (c : Thread nD τ) none Set.univ) (snd0_of 0 rfl) (by rfl)
    (wpE_waitDma2_eq 𝒱₀ (c : Thread nD τ) none Set.univ) (rcv0_of 1 rfl) (by rfl)
    (wpE_waitDma2_eq 𝒱₀ (c : Thread nD τ) none Set.univ) (snd1_of 0 rfl) (by rfl)
    (wpE_waitDma2_eq 𝒱₀ (c : Thread nD τ) none Set.univ) (rcv1_of 1 rfl) (by rfl)
    (wpE_waitDma2_eq 𝒱₀ (c : Thread nD τ) none Set.univ) (snd2_of 0 rfl) (by rfl)
    (wpE_waitDma2_eq 𝒱₀ (c : Thread nD τ) none Set.univ) (rcv2_of 1 rfl) (by rfl)
    (dev6_eq c) rfl rfl) $$ [HX HM HA HsN Hpos HT HV HO]
  · isplitr; · iexact HI
    isplitr; · iexact HL
    isplitl [HX HM HA]
    · iapply (pack_add m ρ c (sl 0) 0)
      isplitl [HX]; · iexact HX
      isplitl [HM]; · iexact HM
      iexact HA
    isplitl [HsN]
    · iapply (grant_zero c)
      isplitr; · iexact HR
      unfold slots; iexact HsN
    isplitl [Hpos]; · iexact Hpos
    isplitl [HT]; · iexact HT
    isplitl [HV]; · iexact HV
    isplitl [HO]; · iexact HO
    iexact Hrc
  iintro HP Hpos HO HB
  iapply (Scf.wp_for_bind _ _ Set.univ _ _ _ _ _ _ (fun k _ => loopI m ρ c k) (fun k acc => loop_step m ρ c _ _ k acc)) $$ [HP Hpos HO HB HE HatC HC Hrest]
  · unfold loopI at'
    isplitr; · iexact HI
    isplitr; · iexact HL
    isplitl [HE]; · iexact HE
    isplitl [HP]; · iexact HP
    isplitl [Hpos]; · iexact Hpos
    isplitl [HatC]
    · isplitl [HatC]; · iexact HatC
      iexact Hrc
    isplitl [HC]; · iexact HC
    isplitl [Hrest]; · iexact Hrest
    isplitl [HO]; · iexact HO
    iexact HB
  iintro %acc HI'
  ihave HI' := (loopI_last m ρ c) $$ HI'
  icases HI' with ⟨HE, HX, HM, HA, Hpos, HatC, HC, HO, HB⟩
  iapply (loadX c 1 (pk m ρ 31 c) rfl) $$ HX
  iintro HX
  iapply (loadR0 c 1 (pk m ρ 31 c) rfl) $$ HM
  iintro HM
  iapply (loadR1 c 1 (pk m ρ 31 c) rfl) $$ HM
  iintro HM
  iapply (loadA c 1 (pk m ρ 31 c) rfl) $$ HA
  iintro HA
  iapply (loadE m ρ c 0 rfl) $$ HE
  iintro HE
  iapply (loadE m ρ c 1 rfl) $$ HE
  iintro HE
  iapply (loadE m ρ c 2 rfl) $$ HE
  iintro HE
  iapply (loadE m ρ c 3 rfl) $$ HE
  iintro HE
  iapply (loadA c 1 (pk m ρ 31 c) rfl) $$ HA
  iintro HA
  ihave HA := (slotA_any c _ _) $$ HA
  iapply (storeA c 1 (pk' m ρ 31 c) rfl (w := _) rfl) $$ HA
  iintro HA
  iapply (waitCred m ρ c 30 (by omega) (wpE_semWait_eq 𝒱₀ (c : Thread nD τ) none Set.univ) rfl rfl (Above.owe c 31 (by omega) (by omega))) $$ [HC HO HatC]
  · isplitr; · iexact HI
    isplitr; · iexact HL
    isplitl [HC]
    · unfold hopCred; iexact HC
    isplitl [HO] <;> iassumption
  iintro HO HatC -
  rw [owe_last]
  icases HatS with ⟨HatS, #Hrs⟩
  icases HatR with ⟨HatR, #Hrr⟩
  ihave Hrr' := (reach0_at (nxt c) .ro) $$ HR
  icases Hrr' with #Hrr'
  iapply (sendO m ρ c (aQ_of 1 rfl) rfl (dev11_eq c) rfl rfl) $$ [HA HoN HO HtS HtR]
  · isplitr; · iexact HI
    isplitl [HA]; · iexact HA
    isplitl [HoN]; · iexact HoN
    isplitl [HO]; · iexact HO
    isplitl [HtS]; · iexact HtS
    isplitr; · iexact Hrs
    isplitl [HtR]; · iexact HtR
    iexact Hrr'
  iintro HcS HO
  iapply (wait_one m ρ c .so 0 0 rfl (by omega) (wpE_waitDma2_eq 𝒱₀ (c : Thread nD τ) none Set.univ) rfl (by rfl) (Above.zero _)) $$ [HcS HO HatS]
  · isplitr; · iexact HI
    isplitr; · iexact HL
    isplitl [HcS]; · iexact HcS
    isplitl [HO] <;> iassumption
  iintro HO HatS HA
  iapply (wait_one m ρ c .ro 0 31 rfl (by omega) (wpE_waitDma2_eq 𝒱₀ (c : Thread nD τ) none Set.univ) rfl (by rfl) (Above.zero _)) $$ [HcR HO HatR]
  · isplitr; · iexact HI
    isplitr; · iexact HL
    isplitl [HcR]; · iexact HcR
    isplitl [HO] <;> iassumption
  iintro HO HatR Hres
  ihave Hall := (pos_last c) $$ [HatB HatC HatS HatR Hpos]
  · isplitl [HatB]
    · unfold at'; iexact HatB
    isplitl [HatC]; · iexact HatC
    isplitl [HatS]; · iexact HatS
    isplitl [HatR]; · iexact HatR
    iexact Hpos
  imod (close_all m ρ c) $$ [Hall] with Hsem
  · isplitr; · iexact HI
    iexact Hall
  rw [wp_ret]
  imodintro
  iapply (bodyOut_intro m ρ c)
  isplitl [Hsem]; · iexact Hsem
  isplitl [HB]; · iexact HB
  isplitl [HX]; · iexact HX
  isplitl [HM]; · iexact HM
  isplitl [HA]; · iexact HA
  isplitl [H0]; · iexact H0
  isplitl [H1]; · iexact H1
  isplitl [H2]; · iexact H2
  isplitl [HE]; · iexact HE
  isplitl [H4]; · iexact H4
  isplitl [Hres]; · iexact Hres
  iexact HO

end Cert.Proof.Ring

end
-- ==== Proof.Deal.lean ====
/-
  The launch's cells and duty tokens: what is minted, and how the tokens are dealt round the ring.
-/
module

public import proofs.«01_k».proof.Proof.Body
public import Idealize.ShloMosaic.Lib.SparseCore.Launch

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The cells -/

/-- The cell of a device and a kind, as one function, -/
def kcell (q : Dev nD × CK) : GSem nD τ sig := cell q.1 q.2

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- and all of them. -/
def ringCells : Finset (GSem nD τ sig) := Finset.univ.map ⟨kcell, kcell_injective⟩

/-! ## The duty tokens of a device's own cells -/

/-- Which duty: one of the four at the ends, or one of the seven of a hop. -/
abbrev TK : Type := Fin 4 ⊕ ℕ × Fin 7

/-- The seven kinds and rounds of hop `h`. -/
def hopKey (h : ℕ) : Fin 7 → CK × ℕ
  | 0 => (.cred, h) | 1 => (.snd 0 (sl h), h / 2) | 2 => (.snd 1 (sl h), h / 2) | 3 => (.snd 2 (sl h), h / 2)
  | 4 => (.rcv 0 (sl (h + 1)), h / 2) | 5 => (.rcv 1 (sl (h + 1)), h / 2) | 6 => (.rcv 2 (sl (h + 1)), h / 2)

/-- The kind, the round and the duty. -/
def key : TK → CK × ℕ × Bool
  | .inl 0 => (.bar, 0, false) | .inl 1 => (.bar, 0, true) | .inl 2 => (.so, 0, false) | .inl 3 => (.ro, 0, false)
  | .inr (h, j) => ((hopKey h j).1, (hopKey h j).2, false)

/-- The duty back from the kind, the round and the name. -/
def unkey : CK × ℕ × Bool → TK
  | (.bar, _, d) => .inl (if d then 1 else 0) | (.so, _, _) => .inl 2 | (.ro, _, _) => .inl 3 | (.cred, r, _) => .inr (r, 0)
  | (.snd b s, r, _) => .inr (hopS s r, ⟨1 + b.val, by have := b.isLt; omega⟩)
  | (.rcv b s, r, _) => .inr (hopR s r, ⟨4 + b.val, by have := b.isLt; omega⟩)

theorem unkey_key (x : TK) : unkey (key x) = x := by
  rcases x with j | ⟨h, j⟩
  · fin_cases j <;> rfl
  · fin_cases j
    · rfl
    · exact congrArg (fun n => (Sum.inr (n, (1 : Fin 7)) : TK)) (hopS_sl h)
    · exact congrArg (fun n => (Sum.inr (n, (2 : Fin 7)) : TK)) (hopS_sl h)
    · exact congrArg (fun n => (Sum.inr (n, (3 : Fin 7)) : TK)) (hopS_sl h)
    · exact congrArg (fun n => (Sum.inr (n, (4 : Fin 7)) : TK)) (hopR_sl h)
    · exact congrArg (fun n => (Sum.inr (n, (5 : Fin 7)) : TK)) (hopR_sl h)
    · exact congrArg (fun n => (Sum.inr (n, (6 : Fin 7)) : TK)) (hopR_sl h)

/-- A device's duty, as the ledger names it. -/
def tokOf (q : Dev nD × TK) : GSem nD τ sig × ℕ × Bool := (cell q.1 (key q.2).1, (key q.2).2.1, (key q.2).2.2)

theorem tokOf_injective : Function.Injective tokOf := by
  rintro ⟨c, x⟩ ⟨c', x'⟩ h
  have h1 : c = c' := congrArg (fun g : GSem nD τ sig × ℕ × Bool => g.1.1.1) h
  have h2 : (key x).1 = (key x').1 := csem_injective (congrArg (fun g : GSem nD τ sig × ℕ × Bool => g.1.2) h)
  have h3 : (key x).2 = (key x').2 := by
    have h' := congrArg Prod.snd h
    exact h'
  have h4 : key x = key x' := Prod.ext h2 h3
  have h5 : x = x' := by rw [← unkey_key x, h4, unkey_key]
  rw [h1, h5]

/-- A device's duties, -/
def ownKeys : Finset TK := (Finset.univ : Finset (Fin 4)).disjSum (Finset.Ico 0 31 ×ˢ Finset.univ)

/-- and everybody's. -/
def ringToks : Finset (GSem nD τ sig × ℕ × Bool) := (Finset.univ ×ˢ ownKeys).map ⟨tokOf, tokOf_injective⟩

/-- What the launch mints. -/
def u₀ : UU :=
  (initOf (Pipeline.cells cfgs cellOf_inj) (Pipeline.launchToks cfgs cellOf_inj), initOf ringCells ringToks)

/-! ## The tokens, family by family -/

def tS (b : Fin 3) (c : Dev nD) : sProp 𝕄 := bigSep (Finset.Ico 0 31) fun h => dutyTok ER (cell c (.snd b (sl h))) (h / 2) false
def tR (b : Fin 3) (c : Dev nD) : sProp 𝕄 := bigSep (Finset.Ico 0 31) fun h => dutyTok ER (cell c (.rcv b (sl (h + 1)))) (h / 2) false
def tC (c : Dev nD) : sProp 𝕄 := bigSep (Finset.Ico 0 31) fun h => dutyTok ER (cell c .cred) h false
def tB (d : Bool) (c : Dev nD) : sProp 𝕄 := dutyTok ER (cell c .bar) 0 d
def tSO (c : Dev nD) : sProp 𝕄 := dutyTok ER (cell c .so) 0 false
def tRO (c : Dev nD) : sProp 𝕄 := dutyTok ER (cell c .ro) 0 false

/-- The tokens of device `c`'s own cells. -/
def toks (c : Dev nD) : sProp 𝕄 :=
  iprop((tB false c ∗ tB true c ∗ tSO c ∗ tRO c) ∗ tC c ∗ tS 0 c ∗ tS 1 c ∗ tS 2 c ∗ tR 0 c ∗ tR 1 c ∗ tR 2 c)

theorem bigSep_disjSum {I J : Type} [DecidableEq I] [DecidableEq J] (S : Finset I) (T : Finset J) (Φ : I ⊕ J → sProp 𝕄) :
    bigSep (S.disjSum T) Φ = iprop((bigSep S fun i => Φ (.inl i)) ∗ bigSep T fun j => Φ (.inr j)) := by
  rw [show S.disjSum T = S.map .inl ∪ T.map .inr from by rw [← Finset.disjUnion_eq_union _ _ (Finset.disjoint_map_inl_map_inr S T)]; rfl,
    BI.bigSep_union (Finset.disjoint_map_inl_map_inr S T), bigSep_map, bigSep_map]
  rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem toks_eq (c : Dev nD) :
    bigSep ownKeys (fun x => dutyTok ER (tokOf (c, x)).1 (tokOf (c, x)).2.1 (tokOf (c, x)).2.2) = (toks c : sProp 𝕄) := by
  unfold ownKeys toks
  rw [bigSep_disjSum, bigSep_four, SparseCore.bigSep_product]
  simp only [bigSep_seven, bigSep_sep']
  rfl

theorem bigSep_ringToks : bigSep ringToks (fun x => (dutyTok ER x.1 x.2.1 x.2.2 : sProp 𝕄)) = bigSep Finset.univ fun c : Dev nD => toks c := by
  unfold ringToks
  rw [bigSep_map, SparseCore.bigSep_product]
  exact bigSep_congr fun c _ => toks_eq c

/-! ## The credit -/

section Credit

/-- The launch's credit for what is owed at a cell of the next device, -/
theorem credNxt (k : CK) (ι n : ℕ) (c : Dev nD) :
    (Pipeline.launchCred (fun d => tallyAt (cell (nxt d) k) ι n) c : sProp 𝕄) ⊢ cred (tallyAt (cell c k) ι n) :=
  Pipeline.launchCred_tallyAt (csem k) nxt prv nxt_prv prv_nxt ι n c
/-- and for what is owed at a cell of the previous one. -/
theorem credPrv (k : CK) (ι n : ℕ) (c : Dev nD) :
    (Pipeline.launchCred (fun d => tallyAt (cell (prv d) k) ι n) c : sProp 𝕄) ⊢ cred (tallyAt (cell c k) ι n) :=
  Pipeline.launchCred_tallyAt (csem k) prv nxt prv_nxt nxt_prv ι n c

theorem cred_due (h : ℕ) (c : Dev nD) : (Pipeline.launchCred (fun d => due d h) c : sProp 𝕄) ⊢ iprop(hopRcv c h ∗ hopCred c h) := by
  unfold due
  rw [Pipeline.launchCred_add, Pipeline.launchCred_add, Pipeline.launchCred_add]
  unfold dueA dueR hopRcv hopCred
  iintro ⟨⟨⟨HA, H2⟩, H1⟩, H0⟩
  isplitr [HA]
  · isplitl [H0]; · iapply (credNxt (.rcv 0 (sl (h + 1))) h (NN 0) c); iexact H0
    isplitl [H1]; · iapply (credNxt (.rcv 1 (sl (h + 1))) h (NN 1) c); iexact H1
    iapply (credNxt (.rcv 2 (sl (h + 1))) h (NN 2) c); iexact H2
  · iapply (credPrv .cred h 1 c); iexact HA

theorem two_bar (c : Dev nD) :
    iprop(cred (tallyAt (cell c .bar) 0 1) ∗ cred (tallyAt (cell c .bar) 0 1)) ⊢ (cred (tallyAt (cell c .bar) 0 2) : sProp 𝕄) := by
  rw [show (tallyAt (cell c .bar) 0 2 : CellTallies nD τ sig ℕ) = tallyAt (cell c .bar) 0 1 + tallyAt (cell c .bar) 0 1 from (tallyAt_add _ _ 1 1).symm]
  exact (cred_add _ _).2

/-- What the launch credits device `c`. -/
theorem creds (c : Dev nD) : (Pipeline.launchCred oweAll c : sProp 𝕄) ⊢ allCreds c := by
  rw [show (oweAll : Dev nD → CellTallies nD τ sig ℕ) = fun d => ((tallyAt (cell (nxt d) .ro) 31 NO + ∑ j ∈ Finset.Ico 0 31, due d j)
      + tallyAt (cell (nxt d) .bar) 0 1) + tallyAt (cell (prv d) .bar) 0 1 from rfl,
    Pipeline.launchCred_add, Pipeline.launchCred_add, Pipeline.launchCred_add, Pipeline.launchCred_sum]
  have hd : (bigSep (Finset.Ico 0 31) fun h => Pipeline.launchCred (fun d => due d h) c : sProp 𝕄)
      ⊢ bigSep (Finset.Ico 0 31) fun h => iprop(hopRcv c h ∗ hopCred c h) := bigSep_mono fun h _ => cred_due h c
  unfold allCreds
  iintro ⟨⟨⟨HO, HD⟩, HN⟩, HP⟩
  isplitl [HN HP]
  · iapply (two_bar c)
    isplitl [HN]; · iapply (credNxt .bar 0 1 c); iexact HN
    iapply (credPrv .bar 0 1 c); iexact HP
  isplitl [HD]
  · iapply hd; iexact HD
  iapply (credNxt .ro 31 NO c); iexact HO

end Credit

/-! ## Round the ring -/

theorem turn (Φ : Dev nD → sProp 𝕄) : bigSep Finset.univ Φ ⊢ bigSep Finset.univ fun c => Φ (nxt c) :=
  Entails.of_eq (bigSep_univ_equiv ring Φ)
theorem turnBack (Φ : Dev nD → sProp 𝕄) : bigSep Finset.univ Φ ⊢ bigSep Finset.univ fun c => Φ (prv c) :=
  Entails.of_eq (bigSep_univ_equiv ring.symm Φ)

/-- What a device pays with, family by family. -/
theorem payToks_intro (c : Dev nD) :
    iprop(tB true (prv c) ∗ tB false (nxt c) ∗ tSO c ∗ tRO (nxt c) ∗ tC (prv c) ∗ tS 0 c ∗ tS 1 c ∗ tS 2 c ∗ tR 0 (nxt c) ∗ tR 1 (nxt c) ∗ tR 2 (nxt c))
      ⊢ (payToks c : sProp 𝕄) := by
  unfold payToks hopTok sendTok
  simp only [bigSep_sep']
  unfold tB tSO tRO tC tS tR
  iintro ⟨H1, H2, H3, H4, H5, H6, H7, H8, H9, H10, H11⟩
  isplitl [H1]; · iexact H1
  isplitl [H2]; · iexact H2
  isplitr [H3 H4]
  · isplitr [H5]
    · isplitl [H6 H9]; · isplitl [H6] <;> iassumption
      isplitl [H7 H10]; · isplitl [H7] <;> iassumption
      isplitl [H8] <;> iassumption
    · iexact H5
  isplitl [H3] <;> iassumption

theorem toks_around : (bigSep Finset.univ fun c : Dev nD => (toks c : sProp 𝕄)) ⊢ bigSep Finset.univ fun c : Dev nD => payToks c := by
  refine BI.BIBase.Entails.trans ?_ (bigSep_mono fun c _ => payToks_intro c)
  unfold toks
  simp only [bigSep_sep']
  iintro ⟨⟨H1, H2, H3, H4⟩, H5, H6, H7, H8, H9, H10, H11⟩
  isplitl [H2]; · iapply (turnBack (tB true)); iexact H2
  isplitl [H1]; · iapply (turn (tB false)); iexact H1
  isplitl [H3]; · iexact H3
  isplitl [H4]; · iapply (turn tRO); iexact H4
  isplitl [H5]; · iapply (turnBack tC); iexact H5
  isplitl [H6]; · iexact H6
  isplitl [H7]; · iexact H7
  isplitl [H8]; · iexact H8
  isplitl [H9]; · iapply (turn (tR 0)); iexact H9
  isplitl [H10]; · iapply (turn (tR 1)); iexact H10
  iapply (turn (tR 2)); iexact H11

end Cert.Proof.Ring

end
-- ==== Proof.Launch.lean ====
/-
  The launch: what each device is handed, what the whole program is started from, and the run of all the devices.
-/
module

public import proofs.«01_k».proof.Proof.Deal

public import proofs.«01_k».proof.Proof.Gen.KernelIdeal.Points
public import Idealize.ShloMosaic.Lib.Pipeline.CollectiveSegs

@[expose] public section

noncomputable section

namespace Cert.Proof.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## Semaphores -/

/-- The kernel's own semaphores: the credit's, then the copies'. -/
def osem (i : Fin 15) : SemLoc sig :=
  if i.val = 0 then .reg (0 : Fin 2) else .dma (⟨5 + i.val, by have := i.isLt; omega⟩ : Fin 20)

theorem ownSemFacts : Pipeline.OwnSemFacts cfg0.spec osem := by decide

theorem ownSems0_eq (c : Dev nD) : (Pipeline.ownSems0 (Ix := ℕ) (Name := ℕ) (U := UU) (Lvl := ℕ) (Val := Elt F) (τ := τ) osem c : sProp 𝕄)
    = iprop(semVal (cell c .cred) 0 ∗ semVal (cell c (.snd 0 0)) 0 ∗ semVal (cell c (.snd 0 1)) 0 ∗ semVal (cell c (.rcv 0 0)) 0 ∗ semVal (cell c (.rcv 0 1)) 0
      ∗ semVal (cell c (.snd 1 0)) 0 ∗ semVal (cell c (.snd 1 1)) 0 ∗ semVal (cell c (.rcv 1 0)) 0 ∗ semVal (cell c (.rcv 1 1)) 0
      ∗ semVal (cell c (.snd 2 0)) 0 ∗ semVal (cell c (.snd 2 1)) 0 ∗ semVal (cell c (.rcv 2 0)) 0 ∗ semVal (cell c (.rcv 2 1)) 0
      ∗ semVal (cell c .so) 0 ∗ semVal (cell c .ro) 0) := by
  rw [Pipeline.ownSems0_eq_of_list c osem [0, 1, 2, 3, 4, 5, 6, 7, 8, 9, 10, 11, 12, 13, 14] (by decide) (by decide)]; rfl

theorem unscopedSems0_eq (c : Dev nD) : (unscopedSems0 c : sProp 𝕄) = semVal (cell c .bar) 0 := by
  unfold unscopedSems0; rw [bigSep_eq_bigSepL_of_eq [SemLoc.reg (1 : Fin 2)] (by decide) (by decide)]; rfl

theorem sems0_eq (c : Dev nD) :
    iprop(unscopedSems0 c ∗ Pipeline.ownSems0 (Ix := ℕ) (Name := ℕ) (U := UU) (Lvl := ℕ) (Val := Elt F) (τ := τ) osem c)
      = (bigSep Finset.univ fun k : CK => semVal (cell c k) 0 : sProp 𝕄) := by
  rw [ownSems0_eq, unscopedSems0_eq, bigSep_CK]

/-- The minted element's two parts, each under its own algebra. -/
theorem own_pair (a : UR sig nD τ) (b : UB) : (ownU ((a, b) : UU) : sProp 𝕄) ⊢ iprop(BI.own (EP a) ∗ BI.own (ER b)) :=
  ownU_pair a b

/-! ## What a device is handed -/

/-- Out of the minted element: -/
def G (c : Dev nD) : sProp 𝕄 :=
  iprop((bigSep Finset.univ fun k : CK => roundState ER (rd m ρ) (cell c k) 0)
    ∗ (allAt c fun _ => 0) ∗ (bigSep Finset.univ fun k : CK => reached ER (cell c k) 0) ∗ toks c)

/-- once the invariants are made and the tokens dealt: -/
def G' (c : Dev nD) : sProp 𝕄 := iprop((invs m ρ ∗ reach0) ∗ (allAt c fun _ => 0) ∗ payToks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq bigSep_ringToks) $$ Htok
  unfold G allAt; simp only [bigSep_sep']
  isplitl [Hst']; · iexact Hst'
  isplitl [Hat']; · iexact Hat'
  isplitl [Hr']; · iexact Hr'
  iexact Htok'

/-- A device's cells put under invariants. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (rd m ρ) κ (cell c k)))
          ∗ (allAt c fun _ => 0) ∗ (bigSep Finset.univ fun k : CK => reached ER (cell c k) 0) ∗ toks c) := by
  have ha : iprop((bigSep Finset.univ fun k : CK => semVal (cell c k) 0) ∗ bigSep Finset.univ fun k : CK => roundState ER (rd m ρ) (cell c k) 0)
      ⊢ (|={Set.univ}=> bigSep Finset.univ fun k : CK => iprop(∃ κ : ℕ, cellInv ER (rd m ρ) κ (cell c k)) : sProp 𝕄) := by
    rw [← bigSep_sep']
    exact (bigSep_mono fun k _ => (Rounds.body_intro ER (rd m ρ) (cell c k)).trans inv_alloc).trans (bigSep_fupd _ _)
  unfold G
  iintro ⟨Hos, Hus, Hst, Hat, Hr, Htok⟩
  ihave Hv := (Entails.of_eq (sems0_eq (F := F) c)) $$ [Hos Hus]
  · isplitl [Hus] <;> iassumption
  imod ha $$ [Hv Hst] with Hinv
  · isplitl [Hv] <;> iassumption
  imodintro
  isplitl [Hinv]; · iexact Hinv
  isplitl [Hat]; · iexact Hat
  isplitl [Hr] <;> iassumption

theorem regroup :
    (bigSep Finset.univ fun c : Dev nD => iprop((bigSep Finset.univ fun k : CK => iprop(∃ κ : ℕ, cellInv ER (rd m ρ) κ (cell c k)))
          ∗ (allAt c fun _ => 0) ∗ (bigSep Finset.univ fun k : CK => reached ER (cell c k) 0) ∗ toks c) : sProp 𝕄)
      ⊢ bigSep Finset.univ (G' m ρ) := by
  have hI : (bigSep Finset.univ fun c : Dev nD => bigSep Finset.univ fun k : CK => iprop(∃ κ : ℕ, cellInv ER (rd m ρ) κ (cell c k)) : sProp 𝕄) ⊢ invs m ρ := by
    unfold invs; rw [bigSep_univ_prod]
  have hR : (bigSep Finset.univ fun c : Dev nD => bigSep Finset.univ fun k : CK => reached ER (cell c k) 0 : sProp 𝕄) ⊢ reach0 := by
    unfold reach0; rw [bigSep_univ_prod]
  have hw : iprop((invs m ρ ∗ reach0) ∗ bigSep Finset.univ fun c : Dev nD => iprop((allAt c fun _ => 0) ∗ payToks c)) ⊢ (bigSep Finset.univ (G' m ρ) : sProp 𝕄) :=
    bigSep_with_persistent fun c _ => by unfold G'; exact BI.Entails.refl _
  refine BI.BIBase.Entails.trans ?_ hw
  simp only [bigSep_sep']
  iintro ⟨HI, Hat, Hr, Htok⟩
  isplitl [HI Hr]
  · isplitl [HI]
    · iapply hI; iexact HI
    · iapply hR; iexact Hr
  isplitl [Hat]; · iexact Hat
  iapply (toks_around (F := F)); iexact Htok

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The call's data -/

/-- What the body starts from beside its buffers, -/
def start (c : Dev nD) : sProp 𝕄 := iprop(G' m ρ c ∗ allCreds c ∗ levAts L lv)
/-- the invariant before the one point, -/
def Φ₀ (c : Dev nD) : sProp 𝕄 := iprop(start m ρ c ∗ slots c 0 ∗ slots c 1)
/-- and after it. -/
def Φ₁ (c : Dev nD) : sProp 𝕄 := iprop((bigSep Finset.univ fun k : CK => semVal (cell c k) 0) ∗ slots c 0 ∗ slots c 1)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => in0 m ρ c
    | ⟨1, _⟩ => in1 m ρ c
    | ⟨2, _⟩ => in2 m ρ c
    | ⟨3, _⟩ => in3 m ρ c
    | ⟨4, _⟩ => in4 m ρ c
    | ⟨5, _⟩ => res m ρ c
  Φ t := match t with
    | ⟨0, _⟩ => Φ₀ m ρ c
    | ⟨_ + 1, _⟩ => Φ₁ (F := F) c
  q _ := fullShare
  owed t := match t with
    | ⟨0, _⟩ => oweAll c
    | ⟨_ + 1, _⟩ => 0

abbrev t₀ : Fin cfg0.N := t0_0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer on device `c`, whole, at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt 0 t₀.succ ∗ stg c cc0_stg0_0 (in0 m ρ c) ∗ stg c cc0_stg1_0 (in1 m ρ c) ∗ stg c cc0_stg2_0 (in2 m ρ c)
    ∗ stg c cc0_stg3_0 (in3 m ρ c) ∗ stg c cc0_stg4_0 (in4 m ρ c) ∗ stg c cc0_stg5_0 (res m ρ c))

/-! ### A staging buffer as the body's lemmas name it -/

theorem oM_set : (oM : Memref sig .tc .vmem S1024x1024 .f32).view.set = Finset.univ := by simp only [Memref.view_whole, View.set_whole]

theorem stg_in0 (c : Dev nD) : (∃ d, stg c cc0_stg0_0 ((dats m ρ 0 c).before (0 : Fin 6) t₀ d) : sProp 𝕄) ⊢ inP0 m ρ c := by
  unfold inP0
  iintro ⟨%d, %f, %hf, H⟩
  have e : f = in0 m ρ c := by rw [hf]; unfold Dat.before; rw [if_pos (fetch0_0 t₀)]; rfl
  subst e; iexact H
theorem stg_in1 (c : Dev nD) : (∃ d, stg c cc0_stg1_0 ((dats m ρ 0 c).before (1 : Fin 6) t₀ d) : sProp 𝕄) ⊢ inP1 m ρ c := by
  unfold inP1
  iintro ⟨%d, %f, %hf, H⟩
  have e : f = in1 m ρ c := by rw [hf]; unfold Dat.before; rw [if_pos (fetch0_1 t₀)]; rfl
  subst e; iexact H
theorem stg_in2 (c : Dev nD) : (∃ d, stg c cc0_stg2_0 ((dats m ρ 0 c).before (2 : Fin 6) t₀ d) : sProp 𝕄) ⊢ inP2 m ρ c := by
  unfold inP2
  iintro ⟨%d, %f, %hf, H⟩
  have e : f = in2 m ρ c := by rw [hf]; unfold Dat.before; rw [if_pos (fetch0_2 t₀)]; rfl
  subst e; iexact H
theorem stg_in3 (c : Dev nD) : (∃ d, stg c cc0_stg3_0 ((dats m ρ 0 c).before (3 : Fin 6) t₀ d) : sProp 𝕄) ⊢ expP m ρ c := by
  unfold expP
  iintro ⟨%d, %f, %hf, H⟩
  have e : f = in3 m ρ c := by rw [hf]; unfold Dat.before; rw [if_pos (fetch0_3 t₀)]; rfl
  subst e; iexact H
theorem stg_in4 (c : Dev nD) : (∃ d, stg c cc0_stg4_0 ((dats m ρ 0 c).before (4 : Fin 6) t₀ d) : sProp 𝕄) ⊢ inP4 m ρ c := by
  unfold inP4
  iintro ⟨%d, %f, %hf, H⟩
  have e : f = in4 m ρ c := by rw [hf]; unfold Dat.before; rw [if_pos (fetch0_4 t₀)]; rfl
  subst e; iexact H
theorem stg_out (c : Dev nD) : (∃ d, stg c cc0_stg5_0 ((dats m ρ 0 c).before (5 : Fin 6) t₀ d) : sProp 𝕄) ⊢ iprop(∃ f, outP c f) := by
  unfold outP
  iintro ⟨%d, %f, %hf, H⟩
  iexists f; rw [oM_set]; iexact H

theorem in0_stg (c : Dev nD) : (inP0 m ρ c : sProp 𝕄) ⊢ stg c cc0_stg0_0 (in0 m ρ c) := by
  unfold inP0; iintro H; iexists _; isplitr; · (ipureintro; rfl)
  iexact H
theorem in1_stg (c : Dev nD) : (inP1 m ρ c : sProp 𝕄) ⊢ stg c cc0_stg1_0 (in1 m ρ c) := by
  unfold inP1; iintro H; iexists _; isplitr; · (ipureintro; rfl)
  iexact H
theorem in2_stg (c : Dev nD) : (inP2 m ρ c : sProp 𝕄) ⊢ stg c cc0_stg2_0 (in2 m ρ c) := by
  unfold inP2; iintro H; iexists _; isplitr; · (ipureintro; rfl)
  iexact H
theorem in3_stg (c : Dev nD) : (expP m ρ c : sProp 𝕄) ⊢ stg c cc0_stg3_0 (in3 m ρ c) := by
  unfold expP; iintro H; iexists _; isplitr; · (ipureintro; rfl)
  iexact H
theorem in4_stg (c : Dev nD) : (inP4 m ρ c : sProp 𝕄) ⊢ stg c cc0_stg4_0 (in4 m ρ c) := by
  unfold inP4; iintro H; iexists _; isplitr; · (ipureintro; rfl)
  iexact H
theorem out_stg (c : Dev nD) : (outP c (res m ρ c) : sProp 𝕄) ⊢ stg c cc0_stg5_0 (res m ρ c) := by
  unfold outP; rw [oM_set]
  iintro H; iexists _; isplitr; · (ipureintro; rfl)
  iexact H

theorem owed_in (c : Dev nD) : ((dats m ρ 0 c).owesAt 0 t₀.castSucc : sProp 𝕄) ⊢ owed c (oweAll c) := by
  unfold Dat.owesAt Pipeline.owesWithin owed
  rw [show (dats m ρ 0 c).owed t₀.castSucc = oweAll c from rfl]
  iintro ⟨%W, %hW, HO⟩
  iexists W; iexact HO
theorem owed_out (c : Dev nD) : (owed c 0 : sProp 𝕄) ⊢ (dats m ρ 0 c).owesAt 0 t₀.succ := by
  unfold Dat.owesAt Pipeline.owesWithin owed
  rw [show (dats m ρ 0 c).owed t₀.succ = 0 from rfl]
  iintro ⟨%W, HO⟩
  iexists W; isplitr; · (ipureintro; exact fun _ _ => Or.inl trivial)
  iexact HO

theorem body_in (c : Dev nD) : (bodyPre m ρ c : sProp 𝕄) ⊢ bodyIn m ρ c := by
  unfold bodyPre bodyIn Φ₀ start G'
  iintro ⟨⟨⟨⟨⟨HI, HR⟩, Hat, Htok⟩, Hcr, Hlev⟩, Hs0, Hs1⟩, Ho, H0, H1, H2, H3, H4, H5⟩
  isplitl [HI]; · iexact HI
  isplitl [Hlev]; · iexact Hlev
  isplitl [HR]; · iexact HR
  isplitl [Hat]; · iexact Hat
  isplitl [Htok]; · iexact Htok
  isplitl [Hcr]; · iexact Hcr
  isplitl [Hs0]; · iexact Hs0
  isplitl [Hs1]; · iexact Hs1
  isplitl [H0]; · iapply (stg_in0 m ρ c); iexact H0
  isplitl [H1]; · iapply (stg_in1 m ρ c); iexact H1
  isplitl [H2]; · iapply (stg_in2 m ρ c); iexact H2
  isplitl [H3]; · iapply (stg_in3 m ρ c); iexact H3
  isplitl [H4]; · iapply (stg_in4 m ρ c); iexact H4
  isplitl [H5]; · iapply (stg_out m ρ c); iexact H5
  iapply (owed_in m ρ c); iexact Ho

theorem body_out (c : Dev nD) : (bodyOut m ρ c : sProp 𝕄) ⊢ bodyPost m ρ c := by
  unfold bodyOut bodyPost Φ₁
  iintro ⟨Hz, Hs0, Hs1, H0, H1, H2, H3, H4, H5, Ho⟩
  isplitl [Hz Hs0 Hs1]
  · isplitl [Hz]; · iexact Hz
    isplitl [Hs0] <;> iassumption
  isplitl [Ho]; · iapply (owed_out m ρ c); iexact Ho
  isplitl [H0]; · iapply (in0_stg m ρ c); iexact H0
  isplitl [H1]; · iapply (in1_stg m ρ c); iexact H1
  isplitl [H2]; · iapply (in2_stg m ρ c); iexact H2
  isplitl [H3]; · iapply (in3_stg m ρ c); iexact H3
  isplitl [H4]; · iapply (in4_stg m ρ c); iexact H4
  iapply (out_stg m ρ c); iexact H5

set_option maxRecDepth 4000 in
theorem body_obligation (c : Dev nD) : BodyObligation (dats (F := F) m ρ 0 c) (defs₀ (F := F)) 𝒱₀ 0 Set.univ := fun t => by
  rw [fin_N0 t]
  rw [bigSep_W, bigSep_W]
  simp only [owns_whole]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11) (fun _ => bodyPost m ρ c)
  exact (body_in m ρ c).trans ((body_run m ρ c).trans (wp_mono _ _ _ fun _ => body_out m ρ c))

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred oweAll c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ slots
  iintro ⟨Hs, -, HX, HM, HA⟩
  isplitl [Hs]; · iexact Hs
  ihave HX' := (wholeX (F := F) c).1 $$ HX
  ihave HM' := (wholeM (F := F) c).1 $$ HM
  ihave HA' := (wholeA (F := F) c).1 $$ HA
  icases HX' with ⟨HX0, HX1⟩
  icases HM' with ⟨HM0, HM1⟩
  icases HA' with ⟨HA0, HA1⟩
  isplitl [HX0 HM0 HA0]
  · isplitl [HX0]; · iexact HX0
    isplitl [HM0] <;> iassumption
  · isplitl [HX1]; · iexact HX1
    isplitl [HM1] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ slots
  iintro ⟨Hz, ⟨HX0, HM0, HA0⟩, HX1, HM1, HA1⟩
  ihave Hz' := (Entails.of_eq (sems0_eq (F := F) c).symm) $$ Hz
  icases Hz' with ⟨Hu, Ho⟩
  isplitl [Hu]; · iexact Hu
  isplitl [Ho]; · iexact Ho
  isplitl [HX0 HX1]
  · iapply (wholeX (F := F) c).2; isplitl [HX0] <;> iassumption
  isplitl [HM0 HM1]
  · iapply (wholeM (F := F) c).2; isplitl [HM0] <;> iassumption
  iapply (wholeA (F := F) c).2; isplitl [HA0] <;> iassumption

theorem waits (c : Dev nD) : (levAts L lv : sProp 𝕄) ⊢ Pipeline.cellsWaits cfgs (dats m ρ) 0 0 c :=
  Pipeline.cellsWaits_intro cfgs (dats m ρ) 0 0 c fun w s t =>
    mayWait_sem c _ 0 _ (by omega) (by
      have e : lv ((c : Thread nD τ), SemLoc.dma (((cfgs 0).win w).sem s)) 0 = 0 := by
        unfold lv kindG; rw [if_pos rfl]
        fin_cases w <;> fin_cases s <;> rfl
      rw [e]
      rcases t with ⟨_ | _, ht⟩
      · exact Above.oweAll c
      · exact Above.zero _)

/-! ## The run -/

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every run ends, each device's arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oweAll) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (own_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Proof.Ring

end
-- ==== Proof.Frames.lean ====
/-
  The three programs run and leave their arguments and every semaphore counter as they were.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Proof

open Idealize.ShloMosaic Idealize.ShloMosaic.TcCoe Idealize.SL.Sem

variable {F : FTy → Type} [FloatOps F]

/-- An argument's array holds at the end what it held. -/
theorem Ring.finalA_in (m : (ℓ : Loc Cert.KernelIdeal.nD Cert.KernelIdeal.τ Cert.KernelIdeal.sig) → Buf (Elt F) ℓ) (ρ : Dev Cert.KernelIdeal.nD → PrngReg)
    (c : Dev Cert.KernelIdeal.nD) (w : Fin 6) (hw : w ≠ 5) :
    Ring.finalA m ρ c w = (Ring.s₀ m ρ).mem ((Cert.KernelIdeal.cfg0.win w).arr.view.loc (c : Thread Cert.KernelIdeal.nD Cert.KernelIdeal.τ)) :=
  (Ring.dats (F := F) m ρ 0 c).arrAt_in w (by revert hw; revert w; decide) _

/-- At any floats: the run ends, every argument as it was, every counter at zero. -/
theorem run_frame (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono
    (fun _ h => ⟨fun c => ⟨(h.1 c (0 : Fin 6)).trans (Ring.finalA_in m ρ c 0 (by decide)), (h.1 c (1 : Fin 6)).trans (Ring.finalA_in m ρ c 1 (by decide)),
      (h.1 c (2 : Fin 6)).trans (Ring.finalA_in m ρ c 2 (by decide)), (h.1 c (3 : Fin 6)).trans (Ring.finalA_in m ρ c 3 (by decide)),
      (h.1 c (4 : Fin 6)).trans (Ring.finalA_in m ρ c 4 (by decide))⟩, h.2⟩)
    (Ring.run_main (F := F) m ρ)

theorem frame_ideal : Cert.quiescent_KernelIdeal := fun m ρ _ => run_frame (F := Ideal) m ρ

/-- The two printings of the kernel are one program: the bodies, -/
theorem bodies_same : Cert.Kernel.defs₀ (F := F) = Cert.KernelIdeal.defs₀ (F := F) := by
  refine congrArg Defs.onTc (funext fun l => funext fun a => ?_)
  rcases l with ⟨_ | n, h⟩
  · rcases a with ⟨t, s⟩
    rfl
  · exact absurd h (Nat.not_lt.2 (Nat.le_add_left _ _))

/-- and so the tables. -/
theorem defs_same : Cert.Kernel.defs (F := F) = Cert.KernelIdeal.defs (F := F) :=
  congrArg (Pipeline.defs (Cert.KernelIdeal.pcfgs (F := F))) bodies_same

theorem frame_kernel : Cert.quiescent_Kernel := fun m ρ _ => by
  rw [defs_same]
  exact run_frame (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Token.lean ====
/-
  What one token is given, in extended reals: its share of the dense product, and its own expert's product weighted by
  its softmax entry.
-/
module

public import Idealize.ShloMosaic.Lib.Pointwise

@[expose] public section

noncomputable section

namespace Cert.Proof.Token

open Idealize.ShloMosaic

/-- The row product. -/
def dot {n : ℕ} (x y : Fin n → EReal) : EReal := ∑ k, x k * y k

/-- The softmax of a row: every entry less the greatest, raised, over the sum of those. -/
def soft (s : Fin 128 → EReal) (e : Fin 128) : EReal :=
  Ideal.div (Ideal.exp (s e - Finset.univ.fold max (Ideal.ofBits FTy.f32 0xFF800000#32) s))
    (∑ j, Ideal.exp (s j - Finset.univ.fold max (Ideal.ofBits FTy.f32 0xFF800000#32) s))

/-- What the expert the word `v` names adds: its softmax entry times its product; nothing if `v` names none. -/
def own (P Y : Fin 128 → EReal) (v : BitVec 32) : EReal :=
  if h : 0 ≤ v.toInt ∧ v.toInt < 128 then P ⟨v.toInt.toNat, by omega⟩ * Y ⟨v.toInt.toNat, by omega⟩ else 0

/-- The whole of one result entry: `x` the token's row, `rw` the router's columns, `z` the dense weights' column, `w`
    the experts' columns, `v` the token's word. -/
def entry (x : Fin 512 → EReal) (rw : Fin 128 → Fin 512 → EReal) (w : Fin 128 → Fin 512 → EReal) (z : Fin 512 → EReal)
    (v : BitVec 32) : EReal :=
  dot x z + own (soft fun e => dot x (rw e)) (fun e => dot x (w e)) v

/-- The softmax entry a token's word names, found by comparing the word with every lane. -/
def picked (P : Fin 128 → EReal) (v : BitVec 32) : EReal := ∑ e : Fin 128, if BitVec.ofNat 32 e.val = v then P e else 0

/-- A word below 128 is the word of its number. -/
theorem ofNat_eq_iff (e : Fin 128) (v : BitVec 32) : BitVec.ofNat 32 e.val = v ↔ v.toInt = (e.val : ℤ) := by
  have he := e.isLt
  constructor
  · rintro rfl
    rw [BitVec.toInt_eq_toNat_of_lt (by rw [BitVec.toNat_ofNat]; omega), BitVec.toNat_ofNat, Nat.mod_eq_of_lt (by omega)]
  · intro h
    apply BitVec.eq_of_toInt_eq
    rw [h, BitVec.toInt_eq_toNat_of_lt (by rw [BitVec.toNat_ofNat]; omega), BitVec.toNat_ofNat, Nat.mod_eq_of_lt (by omega)]

theorem picked_eq (P : Fin 128 → EReal) (v : BitVec 32) (e : Fin 128) (h : v.toInt = (e.val : ℤ)) : picked P v = P e := by
  unfold picked
  rw [Finset.sum_eq_single e]
  · rw [if_pos ((ofNat_eq_iff e v).2 h)]
  · intro b _ hb
    rw [if_neg fun hv => hb (Fin.ext (by have := (ofNat_eq_iff b v).1 hv; omega))]
  · intro hn; exact absurd (Finset.mem_univ _) hn

/-- Over all the experts, the one whose number the word is gives all there is. -/
theorem sum_own (P Y : Fin 128 → EReal) (v : BitVec 32) :
    ∑ e : Fin 128, (if v.toInt = (e.val : ℤ) then picked P v else 0) * Y e = own P Y v := by
  unfold own
  split
  · next h =>
    have he : v.toInt = (((⟨v.toInt.toNat, by omega⟩ : Fin 128)).val : ℤ) := by show v.toInt = (v.toInt.toNat : ℤ); omega
    rw [Finset.sum_eq_single (⟨v.toInt.toNat, by omega⟩ : Fin 128)]
    · rw [if_pos he, picked_eq P v _ he]
    · intro b _ hb
      rw [if_neg fun hv => hb (Fin.ext (by show b.val = v.toInt.toNat; omega)), zero_mul]
    · intro hn; exact absurd (Finset.mem_univ _) hn
  · next h =>
    refine Finset.sum_eq_zero fun b _ => ?_
    have := b.isLt
    rw [if_neg (by omega), zero_mul]

/-- Two whole numbers are one if they are as extended reals. -/
theorem int_eq_iff (a b : ℤ) : (((a : ℝ) : EReal) = ((b : ℝ) : EReal)) ↔ a = b := by
  rw [EReal.coe_eq_coe_iff, Int.cast_inj]

/-- The experts dealt four to a device: a sum over devices and their four is one over the experts. -/
theorem sum_devices (f : Fin 128 → EReal) :
    ∑ d : Fin 32, (f ⟨4 * d.val, by omega⟩ + f ⟨4 * d.val + 1, by omega⟩ + f ⟨4 * d.val + 2, by omega⟩ + f ⟨4 * d.val + 3, by omega⟩)
      = ∑ e : Fin 128, f e := by
  rw [← Equiv.sum_comp (finProdFinEquiv (m := 32) (n := 4)) f, Fintype.sum_prod_type]
  refine Finset.sum_congr rfl fun d _ => ?_
  rw [Fin.sum_univ_four]
  have e (k : ℕ) (hk : k < 4) (h : 4 * d.val + k < 128) : (⟨4 * d.val + k, h⟩ : Fin 128) = (finProdFinEquiv (m := 32) (n := 4)) (d, ⟨k, hk⟩) :=
    Fin.ext (by show 4 * d.val + k = k + 4 * d.val; omega)
  exact congrArg₂ (· + ·) (congrArg₂ (· + ·) (congrArg₂ (· + ·) (congrArg f (e 0 (by omega) (by omega))) (congrArg f (e 1 (by omega) (by omega))))
    (congrArg f (e 2 (by omega) (by omega)))) (congrArg f (e 3 (by omega) (by omega)))

end Cert.Proof.Token

end
-- ==== Proof.Packet.lean ====
/-
  A packet read entry by entry in extended reals: what a device adds to a partial result, and what a packet starts with.
-/
module

public import proofs.«01_k».proof.Proof.Sched
public import proofs.«01_k».proof.Proof.Token

@[expose] public section

noncomputable section

namespace Cert.Proof.Ring

open Cert.KernelIdeal Cert.KernelIdeal.Gen
open Idealize.ShloMosaic
open Cert.Proof.Token

/-- What an expert's product `y` adds for the token whose word, as a number, is `i` and whose softmax entry is `p`. -/
def part (i p : EReal) (b : BitVec 32) (y : EReal) : EReal := (if i = ((b.toInt : ℝ) : EReal) then p else 0) * y

/-- The number of device word `w`'s expert `j`. -/
def expNo (w j : BitVec 32) : BitVec 32 := Scalar.addi (Scalar.muli w 4#32) j

/-- One device's share, entry by entry. -/
theorem accW_at (w : BitVec 32) (e : Fin 4 → Vec Ideal S1x512x1024 .f32) (T : Pkt Ideal) (t f : Fin 1024) :
    accW w e T (ix3 0 t f) = T.a (ix3 0 t f)
      + (part (T.i (ix3 0 0 t)) (T.p (ix3 0 0 t)) (expNo w 0#32) (dot (fun k => T.x (ix3 0 t k)) (fun k => e 0 (ix3 0 k f)))
        + part (T.i (ix3 0 0 t)) (T.p (ix3 0 0 t)) (expNo w 1#32) (dot (fun k => T.x (ix3 0 t k)) (fun k => e 1 (ix3 0 k f)))
        + part (T.i (ix3 0 0 t)) (T.p (ix3 0 0 t)) (expNo w 2#32) (dot (fun k => T.x (ix3 0 t k)) (fun k => e 2 (ix3 0 k f)))
        + part (T.i (ix3 0 0 t)) (T.p (ix3 0 0 t)) (expNo w 3#32) (dot (fun k => T.x (ix3 0 t k)) (fun k => e 3 (ix3 0 k f)))) := by
  have h : accW w e T (ix3 0 t f) = T.a (ix3 0 t f)
      + part (T.i (ix3 0 0 t)) (T.p (ix3 0 0 t)) (expNo w 0#32) (dot (fun k => T.x (ix3 0 t k)) (fun k => e 0 (ix3 0 k f)))
        + part (T.i (ix3 0 0 t)) (T.p (ix3 0 0 t)) (expNo w 1#32) (dot (fun k => T.x (ix3 0 t k)) (fun k => e 1 (ix3 0 k f)))
        + part (T.i (ix3 0 0 t)) (T.p (ix3 0 0 t)) (expNo w 2#32) (dot (fun k => T.x (ix3 0 t k)) (fun k => e 2 (ix3 0 k f)))
        + part (T.i (ix3 0 0 t)) (T.p (ix3 0 0 t)) (expNo w 3#32) (dot (fun k => T.x (ix3 0 t k)) (fun k => e 3 (ix3 0 k f))) := by
    unfold part expNo dot
    pointwise [accW, k0_pay7, k0_pay1, k0_pay2, k0_pay3, k0_pay4, k0_pay5, k0_pay6, dot_S1024x512_S512x1024_S1024x1024_1_0_0_1_n_n]
  rw [h]
  ac_rfl

/-! ## What a packet starts with -/

section Start

variable (x : Vec Ideal S1024x512 .f32) (rw : Vec Ideal S512x128 .f32) (ix : Vec Ideal S1024x1 .i32) (sw : Vec Ideal S512x1024 .f32)

theorem pkt0_x (t : Fin 1024) (k : Fin 512) : (pkt0 x rw ix sw).x (ix3 0 t k) = x (ix2 t k) := by
  pointwise [pkt0, k0_pay12, k0_pay8]

theorem pkt0_i (t : Fin 1024) : (pkt0 x rw ix sw).i (ix3 0 0 t) = ((((ix (ix2 t 0) : BitVec 32).toInt : ℤ) : ℝ) : EReal) := by
  pointwise [pkt0, k0_pay13, k0_pay10]
  rfl

theorem pkt0_a (t f : Fin 1024) : (pkt0 x rw ix sw).a (ix3 0 t f) = dot (fun k => x (ix2 t k)) (fun k => sw (ix2 k f)) := by
  unfold dot
  pointwise [pkt0, k0_pay15, k0_pay8, dot_S1024x512_S512x1024_S1024x1024_1_0_0_1_n_n]

theorem pick_eq (a b : BitVec 32) (y : EReal) : Scalar.select (IntOp.cmpi CmpIPredicate.eq a b) y 0 = if a = b then y else 0 := by
  by_cases h : a = b
  · subst h; simp [IntOp.cmpi, Scalar.select]
  · have hb : (a == b) = false := by simp [h]
    simp [IntOp.cmpi, Scalar.select, h, hb]

theorem pkt0_p (t : Fin 1024) :
    (pkt0 x rw ix sw).p (ix3 0 0 t) = picked (soft fun e => dot (fun k => x (ix2 t k)) (fun k => rw (ix2 k e))) (ix (ix2 t 0)) := by
  unfold picked soft dot
  pointwise [pkt0, k0_pay14, k0_pay9, k0_pay8, k0_pay11, k0_pay10, dot_S1024x512_S512x128_S1024x128_1_0_0_1_n_n]
  exact Finset.sum_congr rfl fun e _ => pick_eq _ _ _

end Start

end Cert.Proof.Ring

end
-- ==== Proof.Round.lean ====
/-
  The packet's way round the ring: the token's row, word and softmax entry stay, and the partial result gathers one
  share from every device; so the result is every token's entry.
-/
module

public import proofs.«01_k».proof.Proof.Packet
public import Idealize.ShloMosaic.Lib.ValueLayout

@[expose] public section

noncomputable section

namespace Cert.Proof.Ring

open Cert.KernelIdeal Cert.KernelIdeal.Gen
open Idealize.ShloMosaic Idealize.ShloMosaic.TcCoe
open Cert.Proof.Token

variable (m : (ℓ : Loc nD τ sig) → Buf (Elt Ideal) ℓ) (ρ : Dev nD → PrngReg)

/-- What device `c` adds, at one entry, to the packet that device `d` filled. -/
def gain (d c : Dev nD) (t f : Fin 1024) : EReal :=
  part ((pk m ρ 0 d).i (ix3 0 0 t)) ((pk m ρ 0 d).p (ix3 0 0 t)) (expNo (meW c) 0#32) (dot (fun k => (pk m ρ 0 d).x (ix3 0 t k)) (fun k => expW m ρ c 0 (ix3 0 k f)))
  + part ((pk m ρ 0 d).i (ix3 0 0 t)) ((pk m ρ 0 d).p (ix3 0 0 t)) (expNo (meW c) 1#32) (dot (fun k => (pk m ρ 0 d).x (ix3 0 t k)) (fun k => expW m ρ c 1 (ix3 0 k f)))
  + part ((pk m ρ 0 d).i (ix3 0 0 t)) ((pk m ρ 0 d).p (ix3 0 0 t)) (expNo (meW c) 2#32) (dot (fun k => (pk m ρ 0 d).x (ix3 0 t k)) (fun k => expW m ρ c 2 (ix3 0 k f)))
  + part ((pk m ρ 0 d).i (ix3 0 0 t)) ((pk m ρ 0 d).p (ix3 0 0 t)) (expNo (meW c) 3#32) (dot (fun k => (pk m ρ 0 d).x (ix3 0 t k)) (fun k => expW m ρ c 3 (ix3 0 k f)))

/-- After `h` hops and the share of the device then reached. -/
theorem trip (d : Dev nD) (h : ℕ) :
    (pk' m ρ h (nxt^[h] d)).x = (pk m ρ 0 d).x ∧ (pk' m ρ h (nxt^[h] d)).i = (pk m ρ 0 d).i ∧ (pk' m ρ h (nxt^[h] d)).p = (pk m ρ 0 d).p
      ∧ ∀ t f, (pk' m ρ h (nxt^[h] d)).a (ix3 0 t f) = (pk m ρ 0 d).a (ix3 0 t f) + ∑ k ∈ Finset.range (h + 1), gain m ρ d (nxt^[k] d) t f := by
  induction h with
  | zero =>
    refine ⟨rfl, rfl, rfl, fun t f => ?_⟩
    rw [Finset.sum_range_one]
    exact accW_at (meW d) (expW m ρ d) (pk m ρ 0 d) t f
  | succ h ih =>
    obtain ⟨hx, hi, hp, ha⟩ := ih
    rw [Function.iterate_succ_apply']
    have e : pk' m ρ (h + 1) (nxt (nxt^[h] d)) = share m ρ (nxt (nxt^[h] d)) (pk' m ρ h (nxt^[h] d)) :=
      congrArg (share m ρ (nxt (nxt^[h] d))) (pk'_nxt m ρ h (nxt^[h] d))
    rw [e]
    refine ⟨hx, hi, hp, fun t f => ?_⟩
    rw [Finset.sum_range_succ, ← add_assoc, ← ha]
    refine (accW_at (meW (nxt (nxt^[h] d))) (expW m ρ (nxt (nxt^[h] d))) (pk' m ρ h (nxt^[h] d)) t f).trans ?_
    rw [hx, hi, hp, Function.iterate_succ_apply']
    rfl

/-- The `k`-th device after `d`. -/
theorem nxt_iter (d : Dev nD) (k : ℕ) : (nxt^[k] d).val = (d.val + k) % 32 := by
  have hd : d.val < 32 := d.isLt
  induction k with
  | zero => show d.val = (d.val + 0) % 32; omega
  | succ k ih =>
    rw [Function.iterate_succ_apply']
    show ((nxt^[k] d).val + 1) % 32 = _
    omega

theorem prv_iter (c : Dev nD) : prv c = nxt^[31] c := Fin.ext (by rw [nxt_iter]; rfl)

/-- Thirty-two devices in a row are all the devices. -/
theorem sum_round (d : Dev nD) (g : Dev nD → EReal) : ∑ k ∈ Finset.range 32, g (nxt^[k] d) = ∑ c : Dev nD, g c := by
  refine Finset.sum_bij (fun k _ => nxt^[k] d) (fun _ _ => Finset.mem_univ _) (fun a ha b hb h => ?_) (fun c _ => ?_) (fun _ _ => rfl)
  · have := congrArg Fin.val h
    simp only [nxt_iter, Finset.mem_range] at this ha hb
    omega
  · have hd : d.val < 32 := d.isLt
    have hc : c.val < 32 := c.isLt
    refine ⟨(c.val + 32 - d.val) % 32, Finset.mem_range.2 (Nat.mod_lt _ (by decide)), Fin.ext ?_⟩
    rw [nxt_iter]; omega

/-- The numbers of a device's experts. -/
theorem expNo_int (c : Dev nD) : (expNo (meW c) 0#32).toInt = ((4 * c.val : ℕ) : ℤ) ∧ (expNo (meW c) 1#32).toInt = ((4 * c.val + 1 : ℕ) : ℤ)
    ∧ (expNo (meW c) 2#32).toInt = ((4 * c.val + 2 : ℕ) : ℤ) ∧ (expNo (meW c) 3#32).toInt = ((4 * c.val + 3 : ℕ) : ℤ) := by
  revert c; decide

/-- One expert of a device's block, as its load reads it. -/
theorem expW_at (c : Dev nD) (j : Fin 4) (k : Fin 512) (f : Fin 1024) : expW m ρ c j (ix3 0 k f) = in3 m ρ c (ix3 j k f) := by
  refine congrArg (in3 m ρ c) (funext fun a => Fin.ext ?_)
  match a with
  | ⟨0, _⟩ => show j.val + 0 * 1 = j.val; omega
  | ⟨1, _⟩ => show 0 + 1 * k.val = k.val; omega
  | ⟨2, _⟩ => show 0 + 1 * f.val = f.val; omega

theorem part_at (v b : BitVec 32) (p y : EReal) (n : ℕ) (hb : b.toInt = (n : ℤ)) :
    part (((v.toInt : ℝ) : EReal)) p b y = (if v.toInt = (n : ℤ) then p else 0) * y := by
  unfold part
  by_cases h : v.toInt = b.toInt
  · rw [if_pos ((int_eq_iff _ _).2 h), if_pos (h.trans hb)]
  · rw [if_neg fun e => h ((int_eq_iff _ _).1 e), if_neg fun e => h (e.trans hb.symm)]

/-- Each entry of the result is its token's. -/
theorem res_at (E : Fin 128 → Fin 512 → Fin 1024 → EReal)
    (hE : ∀ (c : Dev nD) (j : Fin 4) (k : Fin 512) (f : Fin 1024) (h : 4 * c.val + j.val < 128), in3 m ρ c (ix3 j k f) = E ⟨4 * c.val + j.val, h⟩ k f)
    (c : Dev nD) (t f : Fin 1024) :
    res m ρ c (ix2 t f) = entry (fun k => in0 m ρ c (ix2 t k)) (fun e k => in1 m ρ c (ix2 k e)) (fun e k => E e k f)
      (fun k => in4 m ρ c (ix2 k f)) (in2 m ρ c (ix2 t 0)) := by
  have hr : res m ρ c (ix2 t f) = (pk' m ρ 31 (nxt^[31] c)).a (ix3 0 t f) := by
    rw [← prv_iter]
    exact congrArg (pk' m ρ 31 (prv c)).a (ValueIdx.reshapeEquiv_ix2_1ab _ t f)
  rw [hr, (trip m ρ c 31).2.2.2 t f, sum_round c fun d => gain m ρ c d t f]
  unfold entry
  rw [← sum_own, ← sum_devices]
  refine congrArg₂ (· + ·) (pkt0_a _ _ _ _ t f) (Finset.sum_congr rfl fun d _ => ?_)
  have hd : d.val < 32 := d.isLt
  have hi : (pk m ρ 0 c).i (ix3 0 0 t) = _ := pkt0_i (in0 m ρ c) (in1 m ρ c) (in2 m ρ c) (in4 m ρ c) t
  have hp : (pk m ρ 0 c).p (ix3 0 0 t) = _ := pkt0_p (in0 m ρ c) (in1 m ρ c) (in2 m ρ c) (in4 m ρ c) t
  have hx : (fun k => (pk m ρ 0 c).x (ix3 0 t k)) = fun k => in0 m ρ c (ix2 t k) :=
    funext fun k => pkt0_x (in0 m ρ c) (in1 m ρ c) (in2 m ρ c) (in4 m ρ c) t k
  have hw (j : Fin 4) (h : 4 * d.val + j.val < 128) : (fun k => expW m ρ d j (ix3 0 k f)) = fun k => E ⟨4 * d.val + j.val, h⟩ k f :=
    funext fun k => (expW_at m ρ d j k f).trans (hE d j k f h)
  obtain ⟨h0, h1, h2, h3⟩ := expNo_int d
  unfold gain
  rw [hx, hw 0 (by show 4 * d.val + 0 < 128; omega), hw 1 (by show 4 * d.val + 1 < 128; omega), hw 2 (by show 4 * d.val + 2 < 128; omega),
    hw 3 (by show 4 * d.val + 3 < 128; omega)]
  rw [hi, hp, part_at _ _ _ _ _ h0, part_at _ _ _ _ _ h1, part_at _ _ _ _ _ h2, part_at _ _ _ _ _ h3]
  rfl

end Cert.Proof.Ring

end
-- ==== Proof.Dense.lean ====
/-
  The reference's result read entry by entry: each is its token's entry.
-/
module

public import proofs.«01_k».proof.Proof.Gen.ReferenceIdeal.Run
public import proofs.«01_k».proof.Proof.Token

@[expose] public section

noncomputable section

namespace Cert.Proof.Dense

open Cert.ReferenceIdeal Cert.ReferenceIdeal.Gen
open Idealize.ShloMosaic
open Cert.Proof.Token

/-- A word as a row number of 128, brought into range. -/
def row (v : BitVec 32) : Fin 128 := ⟨min v.toInt.toNat 127, by omega⟩

/-- How the softmax rows are picked from, -/
abbrev gP : GatherDims S32768x128 S32768x1x1 S32768x1 := gather_S32768x128_S32768x1x1_S32768x1_n_1_0_0_1_2_11
/-- and how the experts' weights are taken. -/
abbrev gW : GatherDims S128x512x1024 S32768x1 S32768x512x1024 := gather_S128x512x1024_S32768x1_S32768x512x1024_12_0_n_n_0_1_15121024

/-- Entry `t` of the rows' picks is row `t`'s at the word given for it. -/
theorem pick_at (P : FVec Ideal S32768x128 .f32) (ix : IVec S32768x1x1 32) (t : Fin 32768) :
    Host.gather gP P ix (ix2 t 0) = P (ix2 t (row (ix (ix3 t 0 0)))) := by
  unfold Host.gather
  refine congrArg P (funext fun a => Fin.ext ?_)
  show gP.start (ix2 t 0) ix a + gP.batchCoord (ix2 t 0) a + gP.offCoord (ix2 t 0) a = _
  have ha : ∀ a : Fin 2, a = 0 ∨ a = 1 := by decide
  rcases ha a with rfl | rfl
  · rw [gP.start_batching _ _ _ (show (0 : Fin 2) ∈ gP.operandBatchingDims from List.mem_singleton.2 rfl),
      gP.offCoord_eq_zero _ _ (fun h => ((gP.mem_sKept _).1 h).2 (List.mem_singleton.2 rfl)), Nat.zero_add, Nat.add_zero]
    unfold GatherDims.batchCoord
    rw [dif_pos (show (0 : Fin 2) ∈ gP.operandBatchingDims from List.mem_singleton.2 rfl)]
    rfl
  · rw [gP.batchCoord_eq_zero _ _ (show (1 : Fin 2) ∉ gP.operandBatchingDims from fun h => absurd (List.mem_singleton.1 h) (by decide)),
      gP.offCoord_eq_zero _ _ (fun h => ((gP.mem_sKept _).1 h).1 (List.mem_singleton.2 rfl))]
    show gP.start (ix2 t 0) ix 1 = _
    unfold GatherDims.start
    have hm : (1 : Fin 2) ∈ gP.startIndexMap := List.mem_singleton.2 rfl
    rw [dif_pos hm]
    have hs : gP.siIdx (ix2 t 0) ⟨List.idxOf (1 : Fin 2) gP.startIndexMap, List.idxOf_lt_length_iff.2 hm⟩ = ix3 t 0 0 := by
      funext b; refine Fin.ext ?_
      match b with
      | ⟨0, _⟩ => rfl
      | ⟨1, _⟩ => rfl
      | ⟨2, _⟩ => rfl
    exact congrArg (fun z => min (ix z).toInt.toNat 127) hs

/-- Entry `t` of the gathered weights is those of the expert whose number is given for it. -/
theorem weights_at (W : FVec Ideal S128x512x1024 .f32) (ix : IVec S32768x1 32) (t : Fin 32768) (k : Fin 512) (f : Fin 1024) :
    Host.gather gW W ix (ix3 t k f) = W (ix3 (row (ix (ix2 t 0))) k f) := by
  unfold Host.gather
  refine congrArg W (funext fun a => Fin.ext ?_)
  show gW.start (ix3 t k f) ix a + gW.batchCoord (ix3 t k f) a + gW.offCoord (ix3 t k f) a = _
  rw [gW.batchCoord_eq_zero _ _ List.not_mem_nil, Nat.add_zero]
  have ha : ∀ a : Fin 3, a = 0 ∨ a = 1 ∨ a = 2 := by decide
  rcases ha a with rfl | rfl | rfl
  · rw [gW.offCoord_eq_zero _ _ (fun h => ((gW.mem_sKept _).1 h).1 (List.mem_singleton.2 rfl)), Nat.add_zero]
    unfold GatherDims.start
    have hm : (0 : Fin 3) ∈ gW.startIndexMap := List.mem_singleton.2 rfl
    rw [dif_pos hm]
    have hs : gW.siIdx (ix3 t k f) ⟨List.idxOf (0 : Fin 3) gW.startIndexMap, List.idxOf_lt_length_iff.2 hm⟩ = ix2 t 0 := by
      funext b; refine Fin.ext ?_
      match b with
      | ⟨0, _⟩ => rfl
      | ⟨1, _⟩ => rfl
    exact congrArg (fun z => min (ix z).toInt.toNat 127) hs
  · unfold GatherDims.start
    rw [dif_neg (show (1 : Fin 3) ∉ gW.startIndexMap from fun h => absurd (List.mem_singleton.1 h) (by decide)), Nat.zero_add]
    unfold GatherDims.offCoord
    rw [dif_pos (show (1 : Fin 3) ∈ gW.sKept from (gW.mem_sKept _).2 ⟨fun h => absurd (List.mem_singleton.1 h) (by decide), List.not_mem_nil⟩)]
    rfl
  · unfold GatherDims.start
    rw [dif_neg (show (2 : Fin 3) ∉ gW.startIndexMap from fun h => absurd (List.mem_singleton.1 h) (by decide)), Nat.zero_add]
    unfold GatherDims.offCoord
    rw [dif_pos (show (2 : Fin 3) ∈ gW.sKept from (gW.mem_sKept _).2 ⟨fun h => absurd (List.mem_singleton.1 h) (by decide), List.not_mem_nil⟩)]
    rfl

section Entry

variable (A0 : FVec Ideal S32768x512 .f32) (A1 : FVec Ideal S512x128 .f32) (A2 : IVec S32768x1 32) (A3 : FVec Ideal S128x512x1024 .f32)
  (A4 : FVec Ideal S512x1024 .f32)

/-- The scores less each row's greatest, raised. -/
def raised : FVec Ideal S32768x128 .f32 :=
  Host.exp (subf (Host.dotGeneral dot_S32768x512_S512x128_S32768x128_1_0_0_1_n_n none A0 A1) (broadcastInDim S32768x128 ![0, 1] bcast_S32768x1_S32768x128_0_1 (broadcastInDim S32768x1 ![0] bcast_S32768_S32768x1_0 (Host.reduce FloatOps.maximumf (Host.dotGeneral dot_S32768x512_S512x128_S32768x128_1_0_0_1_n_n none A0 A1) (constant S_ .f32 0xFF800000#32) reducesTo_S32768x128_S32768_d1 h_S_))))

/-- Those over their row's sum. -/
def probs : FVec Ideal S32768x128 .f32 :=
  Host.divf (raised A0 A1) (broadcastInDim S32768x128 ![0, 1] bcast_S32768x1_S32768x128_0_1 (broadcastInDim S32768x1 ![0] bcast_S32768_S32768x1_0 (Host.reduceAdd (raised A0 A1) (constant S_ .f32 0x00000000#32) reducesTo_S32768x128_S32768_d1 h_S_)))

/-- A negative word counts from the end. -/
def words : IVec S32768x1 32 :=
  select (cmpi .slt A2 (broadcastInDim S32768x1 ![] bcast_S_S32768x1 (constantI S_ 32 0#32))) (addi A2 (broadcastInDim S32768x1 ![] bcast_S_S32768x1 (constantI S_ 32 128#32))) A2

/-- The same of the words in one line. -/
def words' : IVec S32768 32 :=
  select (cmpi .slt (shapeCast _ A2 shapeCasts_S32768x1_S32768) (broadcastInDim S32768 ![] bcast_S_S32768 (constantI S_ 32 0#32))) (addi (shapeCast _ A2 shapeCasts_S32768x1_S32768) (broadcastInDim S32768 ![] bcast_S_S32768 (constantI S_ 32 128#32))) (shapeCast _ A2 shapeCasts_S32768x1_S32768)

/-- The reference's result of its five arguments. -/
def result : FVec Ideal S32768x1024 .f32 :=
  addf (Host.dotGeneral dot_S32768x512_S512x1024_S32768x1024_1_0_0_1_n_n none A0 A4) (select (broadcastInDim S32768x1024 ![0, 1] bcast_S32768x1_S32768x1024_0_1 (andi (cmpi .sge A2 (broadcastInDim S32768x1 ![] bcast_S_S32768x1 (constantI S_ 32 0#32))) (cmpi .slt A2 (broadcastInDim S32768x1 ![] bcast_S_S32768x1 (constantI S_ 32 128#32))))) (mulf (broadcastInDim S32768x1024 ![0, 1] bcast_S32768x1_S32768x1024_0_1 (Host.gather gP (probs A0 A1) (shapeCast _ (words A2) shapeCasts_S32768x1_S32768x1x1))) (Host.dotGeneral dot_S32768x512_S32768x512x1024_S32768x1024_1_1_n_2_0_0 none A0 (Host.gather gW A3 (broadcastInDim S32768x1 ![0] bcast_S32768_S32768x1_0 (words' A2))))) (broadcastInDim S32768x1024 ![] bcast_S_S32768x1024 (id (constant S_ .f32 0x00000000#32))))

theorem probs_at (t : Fin 32768) (e : Fin 128) :
    probs A0 A1 (ix2 t e) = soft (fun e => dot (fun k => A0 (ix2 t k)) (fun k => A1 (ix2 k e))) e := by
  unfold soft dot
  pointwise [probs, raised, dot_S32768x512_S512x128_S32768x128_1_0_0_1_n_n]

/-- A word as the reference takes it: a negative one counts from the end. -/
def wrap (v : BitVec 32) : BitVec 32 := Scalar.select (IntOp.cmpi .slt v 0#32) (IntOp.addi v 128#32) v

theorem words_at (t : Fin 32768) : shapeCast S32768x1x1 (words A2) shapeCasts_S32768x1_S32768x1x1 (ix3 t 0 0) = wrap (A2 (ix2 t 0)) := by
  unfold wrap
  pointwise [words]

theorem words'_at (t : Fin 32768) : broadcastInDim S32768x1 ![0] bcast_S32768_S32768x1_0 (words' A2) (ix2 t 0) = wrap (A2 (ix2 t 0)) := by
  unfold wrap
  pointwise [words']

theorem ge_zero (v : BitVec 32) : IntOp.cmpi .sge v 0#32 = if 0 ≤ v.toInt then 1#1 else 0#1 := by
  by_cases h : 0 ≤ v.toInt <;> simp [IntOp.cmpi, BitVec.sle, h]

theorem lt_zero (v : BitVec 32) : IntOp.cmpi .slt v 0#32 = if v.toInt < 0 then 1#1 else 0#1 := by
  by_cases h : v.toInt < 0 <;> simp [IntOp.cmpi, BitVec.slt, h]

theorem lt_end (v : BitVec 32) : IntOp.cmpi .slt v 128#32 = if v.toInt < 128 then 1#1 else 0#1 := by
  by_cases h : v.toInt < 128 <;> simp [IntOp.cmpi, BitVec.slt, h]

/-- The guarded pick is what the named expert adds. -/
theorem choose_at (P Y : Fin 128 → EReal) (v : BitVec 32) :
    Scalar.select (IntOp.andi (IntOp.cmpi .sge v 0#32) (IntOp.cmpi .slt v 128#32)) (P (row (wrap v)) * Y (row (wrap v))) 0 = own P Y v := by
  unfold own
  rw [ge_zero, lt_end]
  by_cases h : 0 ≤ v.toInt ∧ v.toInt < 128
  · have hw : wrap v = v := by
      unfold wrap
      rw [lt_zero, if_neg (by omega)]
      rfl
    have hr : row v = ⟨v.toInt.toNat, by omega⟩ := Fin.ext (by show min v.toInt.toNat 127 = v.toInt.toNat; omega)
    rw [dif_pos h, if_pos h.1, if_pos h.2, hw, hr]
    rfl
  · rw [dif_neg h]
    by_cases h0 : 0 ≤ v.toInt
    · rw [if_pos h0, if_neg fun h1 => h ⟨h0, h1⟩]; rfl
    · rw [if_neg h0]
      by_cases h1 : v.toInt < 128
      · rw [if_pos h1]; rfl
      · rw [if_neg h1]; rfl

theorem result_at (t : Fin 32768) (f : Fin 1024) :
    result A0 A1 A2 A3 A4 (ix2 t f) = entry (fun k => A0 (ix2 t k)) (fun e k => A1 (ix2 k e)) (fun e k => A3 (ix3 e k f)) (fun k => A4 (ix2 k f)) (A2 (ix2 t 0)) := by
  have hP := (pick_at (probs A0 A1) _ t).trans (congrArg (fun v => probs A0 A1 (ix2 t (row v))) (words_at A2 t))
  have hW (k : Fin 512) := (weights_at A3 _ t k f).trans (congrArg (fun v => A3 (ix3 (row v) k f)) (words'_at A2 t))
  rw [probs_at] at hP
  pointwise [result, dot_S32768x512_S512x1024_S32768x1024_1_0_0_1_n_n, dot_S32768x512_S32768x512x1024_S32768x1024_1_1_n_2_0_0, hP, hW]
  exact congrArg (dot (fun k => A0 (ix2 t k)) (fun k => A4 (ix2 k f)) + ·) ((congrArg (Scalar.select _ _) Ideal.ofBits_zero_f32).trans
    (choose_at _ (fun e => dot (fun k => A0 (ix2 t k)) (fun k => A3 (ix3 e k f))) (A2 (ix2 t 0))))

end Entry

end Cert.Proof.Dense

end
-- ==== Proof.Whole.lean ====
/-
  Device `c`'s result is block `c` of the reference's: both are `Token.entry` of the same row of tokens, the same gates,
  the same experts' columns, the same shared column and the same word.
-/
module

public import proofs.«01_k».proof.Proof.Frames
public import proofs.«01_k».proof.Proof.Round
public import proofs.«01_k».proof.Proof.Dense

@[expose] public section

noncomputable section

namespace Cert.Proof

open Idealize.ShloMosaic Idealize.ShloMosaic.TcCoe Idealize.SL.Sem
open Cert.KernelIdeal

namespace Ring

section Arrays

variable {F : FTy → Type} [FloatOps F]
variable (m : (ℓ : Loc nD τ sig) → Buf (Elt F) ℓ) (ρ : Dev nD → PrngReg) (c : Dev nD)

/-- The token array's one block is the array; -/
theorem in0_whole : in0 m ρ c = m ((c.tc : Thread nD τ).loc main_arg0) :=
  Memref.read_access_unit_zero (Elt F) main_arg0 (funext fun a => by fin_cases a <;> decide) (fun a => by fin_cases a <;> decide) _

/-- so is the gates', -/
theorem in1_whole : in1 m ρ c = m ((c.tc : Thread nD τ).loc main_arg1) :=
  Memref.read_access_unit_zero (Elt F) main_arg1 (funext fun a => by fin_cases a <;> decide) (fun a => by fin_cases a <;> decide) _

/-- the words', -/
theorem in2_whole : in2 m ρ c = m ((c.tc : Thread nD τ).loc main_arg2) :=
  Memref.read_access_unit_zero (Elt F) main_arg2 (funext fun a => by fin_cases a <;> decide) (fun a => by fin_cases a <;> decide) _

/-- the experts' -/
theorem in3_whole : in3 m ρ c = m ((c.tc : Thread nD τ).loc main_arg3) :=
  Memref.read_access_unit_zero (Elt F) main_arg3 (funext fun a => by fin_cases a <;> decide) (fun a => by fin_cases a <;> decide) _

/-- and the shared expert's. -/
theorem in4_whole : in4 m ρ c = m ((c.tc : Thread nD τ).loc main_arg4) :=
  Memref.read_access_unit_zero (Elt F) main_arg4 (funext fun a => by fin_cases a <;> decide) (fun a => by fin_cases a <;> decide) _

/-- The result array ends holding what came home. -/
theorem finalA_out : finalA m ρ c (5 : Fin 6) = res m ρ c := by
  have hb : (win0_5.blk (0 : Fin 1)).view.read (Elt F) (finalA m ρ c (5 : Fin 6)) = res m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero (Elt F) main_v1 (funext fun a => by fin_cases a <;> decide) (fun a => by fin_cases a <;> decide) _).symm.trans hb

end Arrays

end Ring

/-! ## Where a block lies -/

section Blocks

variable {α : Type} (c : Fin 32)

/-- Row `t` of block `c` of an array of 32 times 1024 rows. -/
def global (t : Fin 1024) : Fin 32768 := ⟨c.val * 1024 + t.val, by omega⟩

theorem block_tokens (v : (⟨2, ![32768, 512]⟩ : Shape).Idx → α) (t : Fin 1024) (k : Fin 512) :
    Layout.block ⟨2, ![1024, 512]⟩ ⟨2, ![32768, 512]⟩ 0 32 c v (by decide) (ix2 t k) = v (ix2 (global c t) k) :=
  congrArg v (funext fun a => by fin_cases a <;> rfl)

theorem block_words (v : (⟨2, ![32768, 1]⟩ : Shape).Idx → α) (t : Fin 1024) :
    Layout.block ⟨2, ![1024, 1]⟩ ⟨2, ![32768, 1]⟩ 0 32 c v (by decide) (ix2 t 0) = v (ix2 (global c t) 0) :=
  congrArg v (funext fun a => by fin_cases a <;> rfl)

theorem block_result (v : (⟨2, ![32768, 1024]⟩ : Shape).Idx → α) (t f : Fin 1024) :
    Layout.block ⟨2, ![1024, 1024]⟩ ⟨2, ![32768, 1024]⟩ 0 32 c v (by decide) (ix2 t f) = v (ix2 (global c t) f) :=
  congrArg v (funext fun a => by fin_cases a <;> rfl)

/-- Expert `j` of device `c` is expert `4 c + j` of all. -/
theorem block_experts (v : (⟨3, ![128, 512, 1024]⟩ : Shape).Idx → α) (j : Fin 4) (k : Fin 512) (f : Fin 1024) (h : 4 * c.val + j.val < 128) :
    Layout.block ⟨3, ![4, 512, 1024]⟩ ⟨3, ![128, 512, 1024]⟩ 0 32 c v (by decide) (ix3 j k f) = v (ix3 ⟨4 * c.val + j.val, h⟩ k f) :=
  congrArg v (funext fun a => by
    fin_cases a
    · exact Fin.ext (by show c.val * 4 + j.val = 4 * c.val + j.val; omega)
    · rfl
    · rfl)

end Blocks

/-- The kernel's results are the reference's, block by block. -/
theorem algebraic : Cert.algebraic_KernelIdeal_ReferenceIdeal := by
  intro m ρ m' ρ' _ hag
  refine ⟨Dense.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run Cert.KernelIdeal.defs _ _).mono
      (fun _ h c => ⟨(h.1 c (5 : Fin 6)).trans ((Ring.finalA_out m ρ c).trans ?_),
        (h.1 c (0 : Fin 6)).trans (Ring.finalA_in m ρ c 0 (by decide)), (h.1 c (1 : Fin 6)).trans (Ring.finalA_in m ρ c 1 (by decide)),
        (h.1 c (2 : Fin 6)).trans (Ring.finalA_in m ρ c 2 (by decide)), (h.1 c (3 : Fin 6)).trans (Ring.finalA_in m ρ c 3 (by decide)),
        (h.1 c (4 : Fin 6)).trans (Ring.finalA_in m ρ c 4 (by decide))⟩)
      (Ring.run_main (F := Ideal) m ρ)
    have e0 (t k) : Ring.in0 m ρ c (ix2 t k) = _ := (congrFun ((Ring.in0_whole m ρ c).trans (hag c).1) _).trans (block_tokens c _ t k)
    have e1 : Ring.in1 m ρ c = _ := (Ring.in1_whole m ρ c).trans (hag c).2.1
    have e2 (t) : Ring.in2 m ρ c (ix2 t 0) = _ := (congrFun ((Ring.in2_whole m ρ c).trans (hag c).2.2.1) _).trans (block_words c _ t)
    have e4 : Ring.in4 m ρ c = _ := (Ring.in4_whole m ρ c).trans (hag c).2.2.2.2
    have hr (t f : Fin 1024) : Ring.res m ρ c (ix2 t f) = _ := (Ring.res_at m ρ
      (fun e k f => m' (((0 : Dev Cert.ReferenceIdeal.nD).tc : Thread Cert.ReferenceIdeal.nD Cert.ReferenceIdeal.τ).loc Cert.ReferenceIdeal.main_arg3) (ix3 e k f))
      (fun d j k f h => (congrFun ((Ring.in3_whole m ρ d).trans (hag d).2.2.2.1) _).trans (block_experts d _ j k f h)) c t f)
    simp only [e0, e1, e2, e4] at hr
    funext z
    have hz : z = ix2 (z 0 : Fin 1024) (z 1 : Fin 1024) := ValueIdx.eq_ix2 z
    exact (congrArg (Ring.res m ρ c) hz).trans ((hr _ _).trans
      ((Dense.result_at _ _ _ _ _ (global c (z 0)) (z 1)).symm.trans ((block_result c _ (z 0) (z 1)).symm.trans (congrArg _ hz.symm))))
  · exact (θ_run Cert.ReferenceIdeal.defs _ _).mono (fun _ h => h 0) (Cert.ReferenceIdeal.Value.run (F := Ideal) m' ρ')

end Cert.Proof

end
-- ==== Proof.lean ====
/-
  The claims, put together: Proof/Frames.lean proves that the programs run, Proof/Whole.lean
  that the kernel's results are the reference's.
-/
module

public import proofs.«01_k».proof.Defs
public import proofs.«01_k».proof.Proof.Frames
public import proofs.«01_k».proof.Proof.Whole
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_ideal, frame_reference, trivial, algebraic⟩

end Cert.Proof

end
